-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x384x3584 : Shape := ⟨3, ![2, 384, 3584]⟩
abbrev S3584x37888 : Shape := ⟨2, ![3584, 37888]⟩
abbrev S37888 : Shape := ⟨1, ![37888]⟩
abbrev S768x3584 : Shape := ⟨2, ![768, 3584]⟩
abbrev S1x37888 : Shape := ⟨2, ![1, 37888]⟩
abbrev S768x1 : Shape := ⟨2, ![768, 1]⟩
abbrev S768x18944 : Shape := ⟨2, ![768, 18944]⟩
abbrev S3584x512 : Shape := ⟨2, ![3584, 512]⟩
abbrev S1x512 : Shape := ⟨2, ![1, 512]⟩
abbrev S96x18944 : Shape := ⟨2, ![96, 18944]⟩
abbrev S37x768x512 : Shape := ⟨3, ![37, 768, 512]⟩
abbrev S768x128 : Shape := ⟨2, ![768, 128]⟩
abbrev S256x3584 : Shape := ⟨2, ![256, 3584]⟩
abbrev S256 : Shape := ⟨1, ![256]⟩
abbrev S256x1 : Shape := ⟨2, ![256, 1]⟩
abbrev S256x128 : Shape := ⟨2, ![256, 128]⟩
abbrev S256x512 : Shape := ⟨2, ![256, 512]⟩
abbrev S1x128 : Shape := ⟨2, ![1, 128]⟩
abbrev S1x256x128 : Shape := ⟨3, ![1, 256, 128]⟩
abbrev S768 : Shape := ⟨1, ![768]⟩
abbrev S96x128 : Shape := ⟨2, ![96, 128]⟩
abbrev S1x96x128 : Shape := ⟨3, ![1, 96, 128]⟩

abbrev nBuf : Space → Nat
  | .hbm => 10
  | .vmem => 18
  | .smem => 0
  | _ => 0

abbrev bufTy : (tb : Table) → Fin (tcTables nBuf tb) → BufTy
  | .hbm, ⟨0, _⟩ => ⟨S2x384x3584, .bf16⟩
  | .hbm, ⟨1, _⟩ => ⟨S3584x37888, .fp8e4m3⟩
  | .hbm, ⟨2, _⟩ => ⟨S37888, .f32⟩
  | .hbm, ⟨3, _⟩ => ⟨S768x3584, .bf16⟩
  | .hbm, ⟨4, _⟩ => ⟨S1x37888, .f32⟩
  | .hbm, ⟨5, _⟩ => ⟨S1x37888, .f32⟩
  | .hbm, ⟨6, _⟩ => ⟨S768x1, .f32⟩
  | .hbm, ⟨7, _⟩ => ⟨S768x18944, .fp8e4m3⟩
  | .hbm, ⟨8, _⟩ => ⟨S768x3584, .fp8e4m3⟩
  | .hbm, ⟨9, _⟩ => ⟨S768x1, .f32⟩
  | .local _ .vmem, ⟨0, _⟩ => ⟨S768x3584, .bf16⟩
  | .local _ .vmem, ⟨1, _⟩ => ⟨S3584x512, .fp8e4m3⟩
  | .local _ .vmem, ⟨2, _⟩ => ⟨S3584x512, .fp8e4m3⟩
  | .local _ .vmem, ⟨3, _⟩ => ⟨S3584x512, .fp8e4m3⟩
  | .local _ .vmem, ⟨4, _⟩ => ⟨S3584x512, .fp8e4m3⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S768x1, .f32⟩
  | .local _ .vmem, ⟨10, _⟩ => ⟨S96x18944, .fp8e4m3⟩
  | .local _ .vmem, ⟨11, _⟩ => ⟨S96x18944, .fp8e4m3⟩
  | .local _ .vmem, ⟨12, _⟩ => ⟨S768x3584, .fp8e4m3⟩
  | .local _ .vmem, ⟨13, _⟩ => ⟨S768x1, .f32⟩
  | .local _ .vmem, ⟨14, _⟩ => ⟨S37x768x512, .bf16⟩
  | .local _ .vmem, ⟨15, _⟩ => ⟨S768x128, .f32⟩
  | .local _ .vmem, ⟨16, _⟩ => ⟨S768x128, .f32⟩
  | .local _ .vmem, ⟨17, _⟩ => ⟨S768x128, .bf16⟩
  | _, _ => ⟨S2x384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![45], ![false]⟩

def k0_cond2 (i : grid0.Coords) : BitVec 1 :=
  let arg0 : BitVec 32 := BitVec.ofNat 32 (i 0).val
  let c37_i32 : BitVec 32 := 37#32
  let v3 : BitVec 1 := Scalar.cmpi .slt arg0 c37_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v78 : Index := Scalar.indexCast arg0
  let c0_31 : Index := 0#32
  let c0_32 : Index := 0#32
  ![v78.toNat, 0, 0]
def k0_off2 (i : grid0.Coords) : Fin 3 → Nat :=
  let arg0 : BitVec 32 := BitVec.ofNat 32 (i 0).val
  let v140 : Index := Scalar.indexCast arg0
  let c0_47 : Index := 0#32
  let c128_48 : Index := 128#32
  ![v140.toNat, 0, 128]
def k0_off3 (i : grid0.Coords) : Fin 3 → Nat :=
  let arg0 : BitVec 32 := BitVec.ofNat 32 (i 0).val
  let v202 : Index := Scalar.indexCast arg0
  let c0_63 : Index := 0#32
  let c256_64 : Index := 256#32
  ![v202.toNat, 0, 256]
def k0_off4 (i : grid0.Coords) : Fin 3 → Nat :=
  let arg0 : BitVec 32 := BitVec.ofNat 32 (i 0).val
  let v264 : Index := Scalar.indexCast arg0
  let c0_79 : Index := 0#32
  let c384_80 : Index := 384#32
  ![v264.toNat, 0, 384]
def k0_off5 (i : grid0.Coords) : Fin 3 → Nat :=
  let arg0 : BitVec 32 := BitVec.ofNat 32 (i 0).val
  let v337 : Index := Scalar.indexCast arg0
  let c256_110 : Index := 256#32
  let c0_111 : Index := 0#32
  ![v337.toNat, 256, 0]
def k0_off6 (i : grid0.Coords) : Fin 3 → Nat :=
  let arg0 : BitVec 32 := BitVec.ofNat 32 (i 0).val
  let v399 : Index := Scalar.indexCast arg0
  let c256_127 : Index := 256#32
  let c128_128 : Index := 128#32
  ![v399.toNat, 256, 128]
def k0_off7 (i : grid0.Coords) : Fin 3 → Nat :=
  let arg0 : BitVec 32 := BitVec.ofNat 32 (i 0).val
  let v461 : Index := Scalar.indexCast arg0
  let c256_144 : Index := 256#32
  let c256_145 : Index := 256#32
  ![v461.toNat, 256, 256]
def k0_off8 (i : grid0.Coords) : Fin 3 → Nat :=
  let arg0 : BitVec 32 := BitVec.ofNat 32 (i 0).val
  let v523 : Index := Scalar.indexCast arg0
  let c256_161 : Index := 256#32
  let c384_162 : Index := 384#32
  ![v523.toNat, 256, 384]
def k0_off9 (i : grid0.Coords) : Fin 3 → Nat :=
  let arg0 : BitVec 32 := BitVec.ofNat 32 (i 0).val
  let v596 : Index := Scalar.indexCast arg0
  let c512_191 : Index := 512#32
  let c0_192 : Index := 0#32
  ![v596.toNat, 512, 0]
def k0_off10 (i : grid0.Coords) : Fin 3 → Nat :=
  let arg0 : BitVec 32 := BitVec.ofNat 32 (i 0).val
  let v658 : Index := Scalar.indexCast arg0
  let c512_208 : Index := 512#32
  let c128_209 : Index := 128#32
  ![v658.toNat, 512, 128]
def k0_off11 (i : grid0.Coords) : Fin 3 → Nat :=
  let arg0 : BitVec 32 := BitVec.ofNat 32 (i 0).val
  let v720 : Index := Scalar.indexCast arg0
  let c512_225 : Index := 512#32
  let c256_226 : Index := 256#32
  ![v720.toNat, 512, 256]
def k0_off12 (i : grid0.Coords) : Fin 3 → Nat :=
  let arg0 : BitVec 32 := BitVec.ofNat 32 (i 0).val
  let v782 : Index := Scalar.indexCast arg0
  let c512_242 : Index := 512#32
  let c384_243 : Index := 384#32
  ![v782.toNat, 512, 384]
def k0_cond4 (i : grid0.Coords) : BitVec 1 :=
  let arg0 : BitVec 32 := BitVec.ofNat 32 (i 0).val
  let c37_i32_4 : BitVec 32 := 37#32
  let v9 : BitVec 1 := Scalar.cmpi .sge arg0 c37_i32_4
  let v10 : BitVec 32 := Scalar.extui v9
  let c0_i32_5 : BitVec 32 := 0#32
  let v11 : BitVec 1 := Scalar.cmpi .ne v10 c0_i32_5
  v11

def k0_mult1 (i : grid0.Coords) : BitVec 32 :=
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  v13
def k0_off13 (i : grid0.Coords) : Fin 2 → Nat :=
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v15 : Index := Scalar.indexCast v14
  let c0 : Index := 0#32
  ![v15.toNat, 0]
def k0_off14 (i : grid0.Coords) : Fin 3 → Nat :=
  let c0_7 : Index := 0#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v17 : Index := Scalar.indexCast v14
  let c0_8 : Index := 0#32
  ![0, v17.toNat, 0]
def k0_off15 (i : grid0.Coords) : Fin 3 → Nat :=
  let c0_12 : Index := 0#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v27 : Index := Scalar.indexCast v14
  let c128 : Index := 128#32
  ![0, v27.toNat, 128]
def k0_off16 (i : grid0.Coords) : Fin 3 → Nat :=
  let c0_17 : Index := 0#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v37 : Index := Scalar.indexCast v14
  let c256 : Index := 256#32
  ![0, v37.toNat, 256]
def k0_off17 (i : grid0.Coords) : Fin 3 → Nat :=
  let c0_22 : Index := 0#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v47 : Index := Scalar.indexCast v14
  let c384 : Index := 384#32
  ![0, v47.toNat, 384]
def k0_off18 (i : grid0.Coords) : Fin 3 → Nat :=
  let c1 : Index := 1#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v57 : Index := Scalar.indexCast v14
  let c0_27 : Index := 0#32
  ![1, v57.toNat, 0]
def k0_off19 (i : grid0.Coords) : Fin 3 → Nat :=
  let c1_31 : Index := 1#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v67 : Index := Scalar.indexCast v14
  let c128_32 : Index := 128#32
  ![1, v67.toNat, 128]
def k0_off20 (i : grid0.Coords) : Fin 3 → Nat :=
  let c1_36 : Index := 1#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v77 : Index := Scalar.indexCast v14
  let c256_37 : Index := 256#32
  ![1, v77.toNat, 256]
def k0_off21 (i : grid0.Coords) : Fin 3 → Nat :=
  let c1_41 : Index := 1#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v87 : Index := Scalar.indexCast v14
  let c384_42 : Index := 384#32
  ![1, v87.toNat, 384]
def k0_off22 (i : grid0.Coords) : Fin 3 → Nat :=
  let c2 : Index := 2#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v97 : Index := Scalar.indexCast v14
  let c0_46 : Index := 0#32
  ![2, v97.toNat, 0]
def k0_off23 (i : grid0.Coords) : Fin 3 → Nat :=
  let c2_50 : Index := 2#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v107 : Index := Scalar.indexCast v14
  let c128_51 : Index := 128#32
  ![2, v107.toNat, 128]
def k0_off24 (i : grid0.Coords) : Fin 3 → Nat :=
  let c2_55 : Index := 2#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v117 : Index := Scalar.indexCast v14
  let c256_56 : Index := 256#32
  ![2, v117.toNat, 256]
def k0_off25 (i : grid0.Coords) : Fin 3 → Nat :=
  let c2_60 : Index := 2#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v127 : Index := Scalar.indexCast v14
  let c384_61 : Index := 384#32
  ![2, v127.toNat, 384]
def k0_off26 (i : grid0.Coords) : Fin 3 → Nat :=
  let c3 : Index := 3#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v137 : Index := Scalar.indexCast v14
  let c0_65 : Index := 0#32
  ![3, v137.toNat, 0]
def k0_off27 (i : grid0.Coords) : Fin 3 → Nat :=
  let c3_69 : Index := 3#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v147 : Index := Scalar.indexCast v14
  let c128_70 : Index := 128#32
  ![3, v147.toNat, 128]
def k0_off28 (i : grid0.Coords) : Fin 3 → Nat :=
  let c3_74 : Index := 3#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v157 : Index := Scalar.indexCast v14
  let c256_75 : Index := 256#32
  ![3, v157.toNat, 256]
def k0_off29 (i : grid0.Coords) : Fin 3 → Nat :=
  let c3_79 : Index := 3#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v167 : Index := Scalar.indexCast v14
  let c384_80 : Index := 384#32
  ![3, v167.toNat, 384]
def k0_off30 (i : grid0.Coords) : Fin 3 → Nat :=
  let c4 : Index := 4#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v177 : Index := Scalar.indexCast v14
  let c0_84 : Index := 0#32
  ![4, v177.toNat, 0]
def k0_off31 (i : grid0.Coords) : Fin 3 → Nat :=
  let c4_88 : Index := 4#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v187 : Index := Scalar.indexCast v14
  let c128_89 : Index := 128#32
  ![4, v187.toNat, 128]
def k0_off32 (i : grid0.Coords) : Fin 3 → Nat :=
  let c4_93 : Index := 4#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v197 : Index := Scalar.indexCast v14
  let c256_94 : Index := 256#32
  ![4, v197.toNat, 256]
def k0_off33 (i : grid0.Coords) : Fin 3 → Nat :=
  let c4_98 : Index := 4#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v207 : Index := Scalar.indexCast v14
  let c384_99 : Index := 384#32
  ![4, v207.toNat, 384]
def k0_off34 (i : grid0.Coords) : Fin 3 → Nat :=
  let c5 : Index := 5#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v217 : Index := Scalar.indexCast v14
  let c0_103 : Index := 0#32
  ![5, v217.toNat, 0]
def k0_off35 (i : grid0.Coords) : Fin 3 → Nat :=
  let c5_107 : Index := 5#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v227 : Index := Scalar.indexCast v14
  let c128_108 : Index := 128#32
  ![5, v227.toNat, 128]
def k0_off36 (i : grid0.Coords) : Fin 3 → Nat :=
  let c5_112 : Index := 5#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v237 : Index := Scalar.indexCast v14
  let c256_113 : Index := 256#32
  ![5, v237.toNat, 256]
def k0_off37 (i : grid0.Coords) : Fin 3 → Nat :=
  let c5_117 : Index := 5#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v247 : Index := Scalar.indexCast v14
  let c384_118 : Index := 384#32
  ![5, v247.toNat, 384]
def k0_off38 (i : grid0.Coords) : Fin 3 → Nat :=
  let c6 : Index := 6#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v257 : Index := Scalar.indexCast v14
  let c0_122 : Index := 0#32
  ![6, v257.toNat, 0]
def k0_off39 (i : grid0.Coords) : Fin 3 → Nat :=
  let c6_126 : Index := 6#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v267 : Index := Scalar.indexCast v14
  let c128_127 : Index := 128#32
  ![6, v267.toNat, 128]
def k0_off40 (i : grid0.Coords) : Fin 3 → Nat :=
  let c6_131 : Index := 6#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v277 : Index := Scalar.indexCast v14
  let c256_132 : Index := 256#32
  ![6, v277.toNat, 256]
def k0_off41 (i : grid0.Coords) : Fin 3 → Nat :=
  let c6_136 : Index := 6#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v287 : Index := Scalar.indexCast v14
  let c384_137 : Index := 384#32
  ![6, v287.toNat, 384]
def k0_off42 (i : grid0.Coords) : Fin 3 → Nat :=
  let c7 : Index := 7#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v297 : Index := Scalar.indexCast v14
  let c0_141 : Index := 0#32
  ![7, v297.toNat, 0]
def k0_off43 (i : grid0.Coords) : Fin 3 → Nat :=
  let c7_145 : Index := 7#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v307 : Index := Scalar.indexCast v14
  let c128_146 : Index := 128#32
  ![7, v307.toNat, 128]
def k0_off44 (i : grid0.Coords) : Fin 3 → Nat :=
  let c7_150 : Index := 7#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v317 : Index := Scalar.indexCast v14
  let c256_151 : Index := 256#32
  ![7, v317.toNat, 256]
def k0_off45 (i : grid0.Coords) : Fin 3 → Nat :=
  let c7_155 : Index := 7#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v327 : Index := Scalar.indexCast v14
  let c384_156 : Index := 384#32
  ![7, v327.toNat, 384]
def k0_off46 (i : grid0.Coords) : Fin 3 → Nat :=
  let c8 : Index := 8#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v337 : Index := Scalar.indexCast v14
  let c0_160 : Index := 0#32
  ![8, v337.toNat, 0]
def k0_off47 (i : grid0.Coords) : Fin 3 → Nat :=
  let c8_164 : Index := 8#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v347 : Index := Scalar.indexCast v14
  let c128_165 : Index := 128#32
  ![8, v347.toNat, 128]
def k0_off48 (i : grid0.Coords) : Fin 3 → Nat :=
  let c8_169 : Index := 8#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v357 : Index := Scalar.indexCast v14
  let c256_170 : Index := 256#32
  ![8, v357.toNat, 256]
def k0_off49 (i : grid0.Coords) : Fin 3 → Nat :=
  let c8_174 : Index := 8#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v367 : Index := Scalar.indexCast v14
  let c384_175 : Index := 384#32
  ![8, v367.toNat, 384]
def k0_off50 (i : grid0.Coords) : Fin 3 → Nat :=
  let c9 : Index := 9#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v377 : Index := Scalar.indexCast v14
  let c0_179 : Index := 0#32
  ![9, v377.toNat, 0]
def k0_off51 (i : grid0.Coords) : Fin 3 → Nat :=
  let c9_183 : Index := 9#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v387 : Index := Scalar.indexCast v14
  let c128_184 : Index := 128#32
  ![9, v387.toNat, 128]
def k0_off52 (i : grid0.Coords) : Fin 3 → Nat :=
  let c9_188 : Index := 9#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v397 : Index := Scalar.indexCast v14
  let c256_189 : Index := 256#32
  ![9, v397.toNat, 256]
def k0_off53 (i : grid0.Coords) : Fin 3 → Nat :=
  let c9_193 : Index := 9#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v407 : Index := Scalar.indexCast v14
  let c384_194 : Index := 384#32
  ![9, v407.toNat, 384]
def k0_off54 (i : grid0.Coords) : Fin 3 → Nat :=
  let c10 : Index := 10#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v417 : Index := Scalar.indexCast v14
  let c0_198 : Index := 0#32
  ![10, v417.toNat, 0]
def k0_off55 (i : grid0.Coords) : Fin 3 → Nat :=
  let c10_202 : Index := 10#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v427 : Index := Scalar.indexCast v14
  let c128_203 : Index := 128#32
  ![10, v427.toNat, 128]
def k0_off56 (i : grid0.Coords) : Fin 3 → Nat :=
  let c10_207 : Index := 10#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v437 : Index := Scalar.indexCast v14
  let c256_208 : Index := 256#32
  ![10, v437.toNat, 256]
def k0_off57 (i : grid0.Coords) : Fin 3 → Nat :=
  let c10_212 : Index := 10#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v447 : Index := Scalar.indexCast v14
  let c384_213 : Index := 384#32
  ![10, v447.toNat, 384]
def k0_off58 (i : grid0.Coords) : Fin 3 → Nat :=
  let c11 : Index := 11#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v457 : Index := Scalar.indexCast v14
  let c0_217 : Index := 0#32
  ![11, v457.toNat, 0]
def k0_off59 (i : grid0.Coords) : Fin 3 → Nat :=
  let c11_221 : Index := 11#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v467 : Index := Scalar.indexCast v14
  let c128_222 : Index := 128#32
  ![11, v467.toNat, 128]
def k0_off60 (i : grid0.Coords) : Fin 3 → Nat :=
  let c11_226 : Index := 11#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v477 : Index := Scalar.indexCast v14
  let c256_227 : Index := 256#32
  ![11, v477.toNat, 256]
def k0_off61 (i : grid0.Coords) : Fin 3 → Nat :=
  let c11_231 : Index := 11#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v487 : Index := Scalar.indexCast v14
  let c384_232 : Index := 384#32
  ![11, v487.toNat, 384]
def k0_off62 (i : grid0.Coords) : Fin 3 → Nat :=
  let c12 : Index := 12#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v497 : Index := Scalar.indexCast v14
  let c0_236 : Index := 0#32
  ![12, v497.toNat, 0]
def k0_off63 (i : grid0.Coords) : Fin 3 → Nat :=
  let c12_240 : Index := 12#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v507 : Index := Scalar.indexCast v14
  let c128_241 : Index := 128#32
  ![12, v507.toNat, 128]
def k0_off64 (i : grid0.Coords) : Fin 3 → Nat :=
  let c12_245 : Index := 12#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v517 : Index := Scalar.indexCast v14
  let c256_246 : Index := 256#32
  ![12, v517.toNat, 256]
def k0_off65 (i : grid0.Coords) : Fin 3 → Nat :=
  let c12_250 : Index := 12#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v527 : Index := Scalar.indexCast v14
  let c384_251 : Index := 384#32
  ![12, v527.toNat, 384]
def k0_off66 (i : grid0.Coords) : Fin 3 → Nat :=
  let c13 : Index := 13#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v537 : Index := Scalar.indexCast v14
  let c0_255 : Index := 0#32
  ![13, v537.toNat, 0]
def k0_off67 (i : grid0.Coords) : Fin 3 → Nat :=
  let c13_259 : Index := 13#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v547 : Index := Scalar.indexCast v14
  let c128_260 : Index := 128#32
  ![13, v547.toNat, 128]
def k0_off68 (i : grid0.Coords) : Fin 3 → Nat :=
  let c13_264 : Index := 13#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v557 : Index := Scalar.indexCast v14
  let c256_265 : Index := 256#32
  ![13, v557.toNat, 256]
def k0_off69 (i : grid0.Coords) : Fin 3 → Nat :=
  let c13_269 : Index := 13#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v567 : Index := Scalar.indexCast v14
  let c384_270 : Index := 384#32
  ![13, v567.toNat, 384]
def k0_off70 (i : grid0.Coords) : Fin 3 → Nat :=
  let c14 : Index := 14#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v577 : Index := Scalar.indexCast v14
  let c0_274 : Index := 0#32
  ![14, v577.toNat, 0]
def k0_off71 (i : grid0.Coords) : Fin 3 → Nat :=
  let c14_278 : Index := 14#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v587 : Index := Scalar.indexCast v14
  let c128_279 : Index := 128#32
  ![14, v587.toNat, 128]
def k0_off72 (i : grid0.Coords) : Fin 3 → Nat :=
  let c14_283 : Index := 14#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v597 : Index := Scalar.indexCast v14
  let c256_284 : Index := 256#32
  ![14, v597.toNat, 256]
def k0_off73 (i : grid0.Coords) : Fin 3 → Nat :=
  let c14_288 : Index := 14#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v607 : Index := Scalar.indexCast v14
  let c384_289 : Index := 384#32
  ![14, v607.toNat, 384]
def k0_off74 (i : grid0.Coords) : Fin 3 → Nat :=
  let c15 : Index := 15#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v617 : Index := Scalar.indexCast v14
  let c0_293 : Index := 0#32
  ![15, v617.toNat, 0]
def k0_off75 (i : grid0.Coords) : Fin 3 → Nat :=
  let c15_297 : Index := 15#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v627 : Index := Scalar.indexCast v14
  let c128_298 : Index := 128#32
  ![15, v627.toNat, 128]
def k0_off76 (i : grid0.Coords) : Fin 3 → Nat :=
  let c15_302 : Index := 15#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v637 : Index := Scalar.indexCast v14
  let c256_303 : Index := 256#32
  ![15, v637.toNat, 256]
def k0_off77 (i : grid0.Coords) : Fin 3 → Nat :=
  let c15_307 : Index := 15#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v647 : Index := Scalar.indexCast v14
  let c384_308 : Index := 384#32
  ![15, v647.toNat, 384]
def k0_off78 (i : grid0.Coords) : Fin 3 → Nat :=
  let c16 : Index := 16#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v657 : Index := Scalar.indexCast v14
  let c0_312 : Index := 0#32
  ![16, v657.toNat, 0]
def k0_off79 (i : grid0.Coords) : Fin 3 → Nat :=
  let c16_316 : Index := 16#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v667 : Index := Scalar.indexCast v14
  let c128_317 : Index := 128#32
  ![16, v667.toNat, 128]
def k0_off80 (i : grid0.Coords) : Fin 3 → Nat :=
  let c16_321 : Index := 16#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v677 : Index := Scalar.indexCast v14
  let c256_322 : Index := 256#32
  ![16, v677.toNat, 256]
def k0_off81 (i : grid0.Coords) : Fin 3 → Nat :=
  let c16_326 : Index := 16#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v687 : Index := Scalar.indexCast v14
  let c384_327 : Index := 384#32
  ![16, v687.toNat, 384]
def k0_off82 (i : grid0.Coords) : Fin 3 → Nat :=
  let c17 : Index := 17#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v697 : Index := Scalar.indexCast v14
  let c0_331 : Index := 0#32
  ![17, v697.toNat, 0]
def k0_off83 (i : grid0.Coords) : Fin 3 → Nat :=
  let c17_335 : Index := 17#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v707 : Index := Scalar.indexCast v14
  let c128_336 : Index := 128#32
  ![17, v707.toNat, 128]
def k0_off84 (i : grid0.Coords) : Fin 3 → Nat :=
  let c17_340 : Index := 17#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v717 : Index := Scalar.indexCast v14
  let c256_341 : Index := 256#32
  ![17, v717.toNat, 256]
def k0_off85 (i : grid0.Coords) : Fin 3 → Nat :=
  let c17_345 : Index := 17#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v727 : Index := Scalar.indexCast v14
  let c384_346 : Index := 384#32
  ![17, v727.toNat, 384]
def k0_off86 (i : grid0.Coords) : Fin 3 → Nat :=
  let c18 : Index := 18#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v737 : Index := Scalar.indexCast v14
  let c0_350 : Index := 0#32
  ![18, v737.toNat, 0]
def k0_off87 (i : grid0.Coords) : Fin 3 → Nat :=
  let c18_354 : Index := 18#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v747 : Index := Scalar.indexCast v14
  let c128_355 : Index := 128#32
  ![18, v747.toNat, 128]
def k0_off88 (i : grid0.Coords) : Fin 3 → Nat :=
  let c18_359 : Index := 18#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v757 : Index := Scalar.indexCast v14
  let c256_360 : Index := 256#32
  ![18, v757.toNat, 256]
def k0_off89 (i : grid0.Coords) : Fin 3 → Nat :=
  let c18_364 : Index := 18#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v767 : Index := Scalar.indexCast v14
  let c384_365 : Index := 384#32
  ![18, v767.toNat, 384]
def k0_off90 (i : grid0.Coords) : Fin 3 → Nat :=
  let c19 : Index := 19#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v777 : Index := Scalar.indexCast v14
  let c0_369 : Index := 0#32
  ![19, v777.toNat, 0]
def k0_off91 (i : grid0.Coords) : Fin 3 → Nat :=
  let c19_373 : Index := 19#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v787 : Index := Scalar.indexCast v14
  let c128_374 : Index := 128#32
  ![19, v787.toNat, 128]
def k0_off92 (i : grid0.Coords) : Fin 3 → Nat :=
  let c19_378 : Index := 19#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v797 : Index := Scalar.indexCast v14
  let c256_379 : Index := 256#32
  ![19, v797.toNat, 256]
def k0_off93 (i : grid0.Coords) : Fin 3 → Nat :=
  let c19_383 : Index := 19#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v807 : Index := Scalar.indexCast v14
  let c384_384 : Index := 384#32
  ![19, v807.toNat, 384]
def k0_off94 (i : grid0.Coords) : Fin 3 → Nat :=
  let c20 : Index := 20#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v817 : Index := Scalar.indexCast v14
  let c0_388 : Index := 0#32
  ![20, v817.toNat, 0]
def k0_off95 (i : grid0.Coords) : Fin 3 → Nat :=
  let c20_392 : Index := 20#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v827 : Index := Scalar.indexCast v14
  let c128_393 : Index := 128#32
  ![20, v827.toNat, 128]
def k0_off96 (i : grid0.Coords) : Fin 3 → Nat :=
  let c20_397 : Index := 20#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v837 : Index := Scalar.indexCast v14
  let c256_398 : Index := 256#32
  ![20, v837.toNat, 256]
def k0_off97 (i : grid0.Coords) : Fin 3 → Nat :=
  let c20_402 : Index := 20#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v847 : Index := Scalar.indexCast v14
  let c384_403 : Index := 384#32
  ![20, v847.toNat, 384]
def k0_off98 (i : grid0.Coords) : Fin 3 → Nat :=
  let c21 : Index := 21#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v857 : Index := Scalar.indexCast v14
  let c0_407 : Index := 0#32
  ![21, v857.toNat, 0]
def k0_off99 (i : grid0.Coords) : Fin 3 → Nat :=
  let c21_411 : Index := 21#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v867 : Index := Scalar.indexCast v14
  let c128_412 : Index := 128#32
  ![21, v867.toNat, 128]
def k0_off100 (i : grid0.Coords) : Fin 3 → Nat :=
  let c21_416 : Index := 21#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v877 : Index := Scalar.indexCast v14
  let c256_417 : Index := 256#32
  ![21, v877.toNat, 256]
def k0_off101 (i : grid0.Coords) : Fin 3 → Nat :=
  let c21_421 : Index := 21#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v887 : Index := Scalar.indexCast v14
  let c384_422 : Index := 384#32
  ![21, v887.toNat, 384]
def k0_off102 (i : grid0.Coords) : Fin 3 → Nat :=
  let c22 : Index := 22#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v897 : Index := Scalar.indexCast v14
  let c0_426 : Index := 0#32
  ![22, v897.toNat, 0]
def k0_off103 (i : grid0.Coords) : Fin 3 → Nat :=
  let c22_430 : Index := 22#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v907 : Index := Scalar.indexCast v14
  let c128_431 : Index := 128#32
  ![22, v907.toNat, 128]
def k0_off104 (i : grid0.Coords) : Fin 3 → Nat :=
  let c22_435 : Index := 22#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v917 : Index := Scalar.indexCast v14
  let c256_436 : Index := 256#32
  ![22, v917.toNat, 256]
def k0_off105 (i : grid0.Coords) : Fin 3 → Nat :=
  let c22_440 : Index := 22#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v927 : Index := Scalar.indexCast v14
  let c384_441 : Index := 384#32
  ![22, v927.toNat, 384]
def k0_off106 (i : grid0.Coords) : Fin 3 → Nat :=
  let c23 : Index := 23#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v937 : Index := Scalar.indexCast v14
  let c0_445 : Index := 0#32
  ![23, v937.toNat, 0]
def k0_off107 (i : grid0.Coords) : Fin 3 → Nat :=
  let c23_449 : Index := 23#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v947 : Index := Scalar.indexCast v14
  let c128_450 : Index := 128#32
  ![23, v947.toNat, 128]
def k0_off108 (i : grid0.Coords) : Fin 3 → Nat :=
  let c23_454 : Index := 23#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v957 : Index := Scalar.indexCast v14
  let c256_455 : Index := 256#32
  ![23, v957.toNat, 256]
def k0_off109 (i : grid0.Coords) : Fin 3 → Nat :=
  let c23_459 : Index := 23#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v967 : Index := Scalar.indexCast v14
  let c384_460 : Index := 384#32
  ![23, v967.toNat, 384]
def k0_off110 (i : grid0.Coords) : Fin 3 → Nat :=
  let c24 : Index := 24#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v977 : Index := Scalar.indexCast v14
  let c0_464 : Index := 0#32
  ![24, v977.toNat, 0]
def k0_off111 (i : grid0.Coords) : Fin 3 → Nat :=
  let c24_468 : Index := 24#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v987 : Index := Scalar.indexCast v14
  let c128_469 : Index := 128#32
  ![24, v987.toNat, 128]
def k0_off112 (i : grid0.Coords) : Fin 3 → Nat :=
  let c24_473 : Index := 24#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v997 : Index := Scalar.indexCast v14
  let c256_474 : Index := 256#32
  ![24, v997.toNat, 256]
def k0_off113 (i : grid0.Coords) : Fin 3 → Nat :=
  let c24_478 : Index := 24#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1007 : Index := Scalar.indexCast v14
  let c384_479 : Index := 384#32
  ![24, v1007.toNat, 384]
def k0_off114 (i : grid0.Coords) : Fin 3 → Nat :=
  let c25 : Index := 25#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1017 : Index := Scalar.indexCast v14
  let c0_483 : Index := 0#32
  ![25, v1017.toNat, 0]
def k0_off115 (i : grid0.Coords) : Fin 3 → Nat :=
  let c25_487 : Index := 25#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1027 : Index := Scalar.indexCast v14
  let c128_488 : Index := 128#32
  ![25, v1027.toNat, 128]
def k0_off116 (i : grid0.Coords) : Fin 3 → Nat :=
  let c25_492 : Index := 25#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1037 : Index := Scalar.indexCast v14
  let c256_493 : Index := 256#32
  ![25, v1037.toNat, 256]
def k0_off117 (i : grid0.Coords) : Fin 3 → Nat :=
  let c25_497 : Index := 25#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1047 : Index := Scalar.indexCast v14
  let c384_498 : Index := 384#32
  ![25, v1047.toNat, 384]
def k0_off118 (i : grid0.Coords) : Fin 3 → Nat :=
  let c26 : Index := 26#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1057 : Index := Scalar.indexCast v14
  let c0_502 : Index := 0#32
  ![26, v1057.toNat, 0]
def k0_off119 (i : grid0.Coords) : Fin 3 → Nat :=
  let c26_506 : Index := 26#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1067 : Index := Scalar.indexCast v14
  let c128_507 : Index := 128#32
  ![26, v1067.toNat, 128]
def k0_off120 (i : grid0.Coords) : Fin 3 → Nat :=
  let c26_511 : Index := 26#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1077 : Index := Scalar.indexCast v14
  let c256_512 : Index := 256#32
  ![26, v1077.toNat, 256]
def k0_off121 (i : grid0.Coords) : Fin 3 → Nat :=
  let c26_516 : Index := 26#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1087 : Index := Scalar.indexCast v14
  let c384_517 : Index := 384#32
  ![26, v1087.toNat, 384]
def k0_off122 (i : grid0.Coords) : Fin 3 → Nat :=
  let c27 : Index := 27#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1097 : Index := Scalar.indexCast v14
  let c0_521 : Index := 0#32
  ![27, v1097.toNat, 0]
def k0_off123 (i : grid0.Coords) : Fin 3 → Nat :=
  let c27_525 : Index := 27#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1107 : Index := Scalar.indexCast v14
  let c128_526 : Index := 128#32
  ![27, v1107.toNat, 128]
def k0_off124 (i : grid0.Coords) : Fin 3 → Nat :=
  let c27_530 : Index := 27#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1117 : Index := Scalar.indexCast v14
  let c256_531 : Index := 256#32
  ![27, v1117.toNat, 256]
def k0_off125 (i : grid0.Coords) : Fin 3 → Nat :=
  let c27_535 : Index := 27#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1127 : Index := Scalar.indexCast v14
  let c384_536 : Index := 384#32
  ![27, v1127.toNat, 384]
def k0_off126 (i : grid0.Coords) : Fin 3 → Nat :=
  let c28 : Index := 28#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1137 : Index := Scalar.indexCast v14
  let c0_540 : Index := 0#32
  ![28, v1137.toNat, 0]
def k0_off127 (i : grid0.Coords) : Fin 3 → Nat :=
  let c28_544 : Index := 28#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1147 : Index := Scalar.indexCast v14
  let c128_545 : Index := 128#32
  ![28, v1147.toNat, 128]
def k0_off128 (i : grid0.Coords) : Fin 3 → Nat :=
  let c28_549 : Index := 28#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1157 : Index := Scalar.indexCast v14
  let c256_550 : Index := 256#32
  ![28, v1157.toNat, 256]
def k0_off129 (i : grid0.Coords) : Fin 3 → Nat :=
  let c28_554 : Index := 28#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1167 : Index := Scalar.indexCast v14
  let c384_555 : Index := 384#32
  ![28, v1167.toNat, 384]
def k0_off130 (i : grid0.Coords) : Fin 3 → Nat :=
  let c29 : Index := 29#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1177 : Index := Scalar.indexCast v14
  let c0_559 : Index := 0#32
  ![29, v1177.toNat, 0]
def k0_off131 (i : grid0.Coords) : Fin 3 → Nat :=
  let c29_563 : Index := 29#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1187 : Index := Scalar.indexCast v14
  let c128_564 : Index := 128#32
  ![29, v1187.toNat, 128]
def k0_off132 (i : grid0.Coords) : Fin 3 → Nat :=
  let c29_568 : Index := 29#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1197 : Index := Scalar.indexCast v14
  let c256_569 : Index := 256#32
  ![29, v1197.toNat, 256]
def k0_off133 (i : grid0.Coords) : Fin 3 → Nat :=
  let c29_573 : Index := 29#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1207 : Index := Scalar.indexCast v14
  let c384_574 : Index := 384#32
  ![29, v1207.toNat, 384]
def k0_off134 (i : grid0.Coords) : Fin 3 → Nat :=
  let c30 : Index := 30#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1217 : Index := Scalar.indexCast v14
  let c0_578 : Index := 0#32
  ![30, v1217.toNat, 0]
def k0_off135 (i : grid0.Coords) : Fin 3 → Nat :=
  let c30_582 : Index := 30#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1227 : Index := Scalar.indexCast v14
  let c128_583 : Index := 128#32
  ![30, v1227.toNat, 128]
def k0_off136 (i : grid0.Coords) : Fin 3 → Nat :=
  let c30_587 : Index := 30#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1237 : Index := Scalar.indexCast v14
  let c256_588 : Index := 256#32
  ![30, v1237.toNat, 256]
def k0_off137 (i : grid0.Coords) : Fin 3 → Nat :=
  let c30_592 : Index := 30#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1247 : Index := Scalar.indexCast v14
  let c384_593 : Index := 384#32
  ![30, v1247.toNat, 384]
def k0_off138 (i : grid0.Coords) : Fin 3 → Nat :=
  let c31 : Index := 31#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1257 : Index := Scalar.indexCast v14
  let c0_597 : Index := 0#32
  ![31, v1257.toNat, 0]
def k0_off139 (i : grid0.Coords) : Fin 3 → Nat :=
  let c31_601 : Index := 31#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1267 : Index := Scalar.indexCast v14
  let c128_602 : Index := 128#32
  ![31, v1267.toNat, 128]
def k0_off140 (i : grid0.Coords) : Fin 3 → Nat :=
  let c31_606 : Index := 31#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1277 : Index := Scalar.indexCast v14
  let c256_607 : Index := 256#32
  ![31, v1277.toNat, 256]
def k0_off141 (i : grid0.Coords) : Fin 3 → Nat :=
  let c31_611 : Index := 31#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1287 : Index := Scalar.indexCast v14
  let c384_612 : Index := 384#32
  ![31, v1287.toNat, 384]
def k0_off142 (i : grid0.Coords) : Fin 3 → Nat :=
  let c32 : Index := 32#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1297 : Index := Scalar.indexCast v14
  let c0_616 : Index := 0#32
  ![32, v1297.toNat, 0]
def k0_off143 (i : grid0.Coords) : Fin 3 → Nat :=
  let c32_620 : Index := 32#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1307 : Index := Scalar.indexCast v14
  let c128_621 : Index := 128#32
  ![32, v1307.toNat, 128]
def k0_off144 (i : grid0.Coords) : Fin 3 → Nat :=
  let c32_625 : Index := 32#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1317 : Index := Scalar.indexCast v14
  let c256_626 : Index := 256#32
  ![32, v1317.toNat, 256]
def k0_off145 (i : grid0.Coords) : Fin 3 → Nat :=
  let c32_630 : Index := 32#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1327 : Index := Scalar.indexCast v14
  let c384_631 : Index := 384#32
  ![32, v1327.toNat, 384]
def k0_off146 (i : grid0.Coords) : Fin 3 → Nat :=
  let c33 : Index := 33#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1337 : Index := Scalar.indexCast v14
  let c0_635 : Index := 0#32
  ![33, v1337.toNat, 0]
def k0_off147 (i : grid0.Coords) : Fin 3 → Nat :=
  let c33_639 : Index := 33#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1347 : Index := Scalar.indexCast v14
  let c128_640 : Index := 128#32
  ![33, v1347.toNat, 128]
def k0_off148 (i : grid0.Coords) : Fin 3 → Nat :=
  let c33_644 : Index := 33#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1357 : Index := Scalar.indexCast v14
  let c256_645 : Index := 256#32
  ![33, v1357.toNat, 256]
def k0_off149 (i : grid0.Coords) : Fin 3 → Nat :=
  let c33_649 : Index := 33#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1367 : Index := Scalar.indexCast v14
  let c384_650 : Index := 384#32
  ![33, v1367.toNat, 384]
def k0_off150 (i : grid0.Coords) : Fin 3 → Nat :=
  let c34 : Index := 34#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1377 : Index := Scalar.indexCast v14
  let c0_654 : Index := 0#32
  ![34, v1377.toNat, 0]
def k0_off151 (i : grid0.Coords) : Fin 3 → Nat :=
  let c34_658 : Index := 34#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1387 : Index := Scalar.indexCast v14
  let c128_659 : Index := 128#32
  ![34, v1387.toNat, 128]
def k0_off152 (i : grid0.Coords) : Fin 3 → Nat :=
  let c34_663 : Index := 34#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1397 : Index := Scalar.indexCast v14
  let c256_664 : Index := 256#32
  ![34, v1397.toNat, 256]
def k0_off153 (i : grid0.Coords) : Fin 3 → Nat :=
  let c34_668 : Index := 34#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1407 : Index := Scalar.indexCast v14
  let c384_669 : Index := 384#32
  ![34, v1407.toNat, 384]
def k0_off154 (i : grid0.Coords) : Fin 3 → Nat :=
  let c35 : Index := 35#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1417 : Index := Scalar.indexCast v14
  let c0_673 : Index := 0#32
  ![35, v1417.toNat, 0]
def k0_off155 (i : grid0.Coords) : Fin 3 → Nat :=
  let c35_677 : Index := 35#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1427 : Index := Scalar.indexCast v14
  let c128_678 : Index := 128#32
  ![35, v1427.toNat, 128]
def k0_off156 (i : grid0.Coords) : Fin 3 → Nat :=
  let c35_682 : Index := 35#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1437 : Index := Scalar.indexCast v14
  let c256_683 : Index := 256#32
  ![35, v1437.toNat, 256]
def k0_off157 (i : grid0.Coords) : Fin 3 → Nat :=
  let c35_687 : Index := 35#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1447 : Index := Scalar.indexCast v14
  let c384_688 : Index := 384#32
  ![35, v1447.toNat, 384]
def k0_off158 (i : grid0.Coords) : Fin 3 → Nat :=
  let c36 : Index := 36#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1457 : Index := Scalar.indexCast v14
  let c0_692 : Index := 0#32
  ![36, v1457.toNat, 0]
def k0_off159 (i : grid0.Coords) : Fin 3 → Nat :=
  let c36_696 : Index := 36#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1467 : Index := Scalar.indexCast v14
  let c128_697 : Index := 128#32
  ![36, v1467.toNat, 128]
def k0_off160 (i : grid0.Coords) : Fin 3 → Nat :=
  let c36_701 : Index := 36#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1477 : Index := Scalar.indexCast v14
  let c256_702 : Index := 256#32
  ![36, v1477.toNat, 256]
def k0_off161 (i : grid0.Coords) : Fin 3 → Nat :=
  let c36_706 : Index := 36#32
  let arg0 : BitVec 32 := BitVec.ofNat 32 (i 0).val
  let c37_i32_6 : BitVec 32 := 37#32
  let v12 : BitVec 32 := Scalar.subi arg0 c37_i32_6
  let c96_i32 : BitVec 32 := 96#32
  let v13 : BitVec 32 := Scalar.muli v12 c96_i32
  let v14 : BitVec 32 := v13
  let v1487 : Index := Scalar.indexCast v14
  let c384_707 : Index := 384#32
  ![36, v1487.toNat, 384]
def k0_cond3 (i : grid0.Coords) : BitVec 1 :=
  let arg0 : BitVec 32 := BitVec.ofNat 32 (i 0).val
  let c37_i32_2 : BitVec 32 := 37#32
  let v6 : BitVec 1 := Scalar.cmpi .eq arg0 c37_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c36_i32 : BitVec 32 := 36#32
  let v0 : BitVec 32 := Scalar.minsi arg0 c36_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c36_i32 : BitVec 32 := 36#32
  let v0 : BitVec 32 := Scalar.minsi arg0 c36_i32
  let c37_i32 : BitVec 32 := 37#32
  let v1 : BitVec 32 := Scalar.addi c37_i32 v0
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c36_i32 : BitVec 32 := 36#32
  let v0 : BitVec 32 := Scalar.minsi arg0 c36_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c36_i32 : BitVec 32 := 36#32
  let v0 : BitVec 32 := Scalar.minsi arg0 c36_i32
  let c37_i32 : BitVec 32 := 37#32
  let v1 : BitVec 32 := Scalar.addi c37_i32 v0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c37_i32 : BitVec 32 := 37#32
  let v0 : BitVec 32 := Scalar.subi arg0 c37_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S96x18944 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S768x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x384x3584 : Shape := ⟨3, ![2, 384, 3584]⟩
abbrev S3584x37888 : Shape := ⟨2, ![3584, 37888]⟩
abbrev S37888 : Shape := ⟨1, ![37888]⟩
abbrev S768x3584 : Shape := ⟨2, ![768, 3584]⟩
abbrev S1x37888 : Shape := ⟨2, ![1, 37888]⟩
abbrev S768x1 : Shape := ⟨2, ![768, 1]⟩
abbrev S768x18944 : Shape := ⟨2, ![768, 18944]⟩
abbrev S768 : Shape := ⟨1, ![768]⟩
abbrev S768x37888 : Shape := ⟨2, ![768, 37888]⟩

abbrev nBuf : Space → Nat
  | .hbm => 9
  | .vmem => 7
  | .smem => 0
  | _ => 0

abbrev bufTy : (tb : Table) → Fin (tcTables nBuf tb) → BufTy
  | .hbm, ⟨0, _⟩ => ⟨S2x384x3584, .bf16⟩
  | .hbm, ⟨1, _⟩ => ⟨S3584x37888, .fp8e4m3⟩
  | .hbm, ⟨2, _⟩ => ⟨S37888, .f32⟩
  | .hbm, ⟨3, _⟩ => ⟨S768x3584, .bf16⟩
  | .hbm, ⟨4, _⟩ => ⟨S1x37888, .f32⟩
  | .hbm, ⟨5, _⟩ => ⟨S768x1, .f32⟩
  | .hbm, ⟨6, _⟩ => ⟨S768x18944, .fp8e4m3⟩
  | .hbm, ⟨7, _⟩ => ⟨S768x3584, .fp8e4m3⟩
  | .hbm, ⟨8, _⟩ => ⟨S768x1, .f32⟩
  | .local _ .vmem, ⟨0, _⟩ => ⟨S768x3584, .bf16⟩
  | .local _ .vmem, ⟨1, _⟩ => ⟨S3584x37888, .fp8e4m3⟩
  | .local _ .vmem, ⟨2, _⟩ => ⟨S1x37888, .f32⟩
  | .local _ .vmem, ⟨3, _⟩ => ⟨S768x1, .f32⟩
  | .local _ .vmem, ⟨4, _⟩ => ⟨S768x18944, .fp8e4m3⟩
  | .local _ .vmem, ⟨5, _⟩ => ⟨S768x3584, .fp8e4m3⟩
  | .local _ .vmem, ⟨6, _⟩ => ⟨S768x1, .f32⟩
  | _, _ => ⟨S2x384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S768x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x37888 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x37888 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x18944 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Setup.lean ====
/- What the proof of the body is stated over: the body's branch conditions in closed form over the points, the
   staging memrefs at a point, the scratch buffers, and the region invariant with the scratch named. -/
module

public import proofs.«01_k».proof.Proof.Gen.Kernel.Frame
public import proofs.«01_k».proof.Proof.Gen.Kernel.Skeleton
public import Idealize.ShloMosaic.Lib.Tactic
public import Idealize.ShloMosaic.Lib.WordCmp

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-- The condition of the body's `scf.if` 1 (`k0_h2`), from the grid coordinates (the skeleton's scalar
    chain substituted). -/
abbrev cond0_1 (i : grid0.Coords) : Prop := k0_cond2 i = 1#1
/-- It holds at the points before point 37 — decided over the grid. -/
theorem hcond0_1 : ∀ t : Fin cfg0.N, cond0_1 (grid0.coords t) ↔ t.val < 37 :=
  (by decide +kernel : ∀ t : Fin grid0.N, cond0_1 (grid0.coords t) ↔ t.val < 37)

/-- The condition of the body's `scf.if` 2 (`k0_h3`), from the grid coordinates (the skeleton's scalar
    chain substituted). -/
abbrev cond0_2 (i : grid0.Coords) : Prop := k0_cond3 i = 1#1
/-- It holds at point 37 only — decided over the grid. -/
theorem hcond0_2 : ∀ t : Fin cfg0.N, cond0_2 (grid0.coords t) ↔ t.val = 37 :=
  (by decide +kernel : ∀ t : Fin grid0.N, cond0_2 (grid0.coords t) ↔ t.val = 37)

/-- The condition of the body's `scf.if` 3 (`k0_h4`), from the grid coordinates (the skeleton's scalar
    chain substituted). -/
abbrev cond0_3 (i : grid0.Coords) : Prop := k0_cond4 i = 1#1
/-- It holds at the points from point 37 on — decided over the grid. -/
theorem hcond0_3 : ∀ t : Fin cfg0.N, cond0_3 (grid0.coords t) ↔ 37 ≤ t.val :=
  (by decide +kernel : ∀ t : Fin grid0.N, cond0_3 (grid0.coords t) ↔ 37 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S768x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x18944 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x3584 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S37x768x512 .bf16 := Memref.whole cc0_scratch0
abbrev scM0_1 : Memref sig .tc .vmem S768x128 .f32 := Memref.whole cc0_scratch1
abbrev scM0_2 : Memref sig .tc .vmem S768x128 .f32 := Memref.whole cc0_scratch2
abbrev scM0_3 : Memref sig .tc .vmem S768x128 .bf16 := Memref.whole cc0_scratch3

/-- The invariant the launch hands over with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Body

end
-- ==== Proof.Kernel.RunA.lean ====
/- The body run whole at point 0: the activations are quantised and the first column step runs. -/
module

public import proofs.«01_k».proof.Proof.Kernel.Setup

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the run's proof term is large: closing the definition walks it past the default budget
set_option maxHeartbeats 4000000 in
/-- THE BODY AT point 0: the activations are quantised and the first column step runs. What its stores leave in each memref, as pieces, last first,
    WITH the proof that the body, run on memrefs owned at any contents, hands each memref it does not store into back
    as it was and each other one with its pieces written over what it held. -/
def runA (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : cond0_0 i) (hc1 : cond0_1 i) (hc2 : ¬cond0_2 i) (hc3 : ¬cond0_3 i)
    (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    Σ' (L8 : List (View.Piece (Elt F) S768x3584 .fp8e4m3)), Σ' (L9 : List (View.Piece (Elt F) S768x1 .f32)), Σ' (L10 : List (View.Piece (Elt F) S37x768x512 .bf16)), Σ' (L11 : List (View.Piece (Elt F) S768x128 .f32)), { L12 : List (View.Piece (Elt F) S768x128 .f32) //
      ∀ (E : Set ℕ) (K : PUnit → sProp 𝕄),
        iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13
            ∗ (iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare (arg8.view.read (Elt F) (arg8.view.writes (Elt F) (harg8.unread y8) L8)) ∗ owns (c : Thread nD τ) arg9 fullShare (arg9.view.read (Elt F) (arg9.view.writes (Elt F) (harg9.unread y9) L9)) ∗ owns (c : Thread nD τ) arg10 fullShare (arg10.view.read (Elt F) (arg10.view.writes (Elt F) (harg10.unread y10) L10)) ∗ owns (c : Thread nD τ) arg11 fullShare (arg11.view.read (Elt F) (arg11.view.writes (Elt F) (harg11.unread y11) L11)) ∗ owns (c : Thread nD τ) arg12 fullShare (arg12.view.read (Elt F) (arg12.view.writes (Elt F) (harg12.unread y12) L12)) ∗ owns (c : Thread nD τ) arg13 fullShare y13) -∗ K ⟨⟩))
          ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_unfold [cc0_swiglu_gate_up_fp8]
    sl_exec_parts (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    iexists _; isplitr; · ipureintro; exact harg13.read_unread _
    iexact H13

end Cert.Kernel.Body

end
-- ==== Proof.Kernel.RunB.lean ====
/- The body run whole at points 1 to 36: a column step runs. -/
module

public import proofs.«01_k».proof.Proof.Kernel.RunA

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the run's proof term is large: closing the definition walks it past the default budget
set_option maxHeartbeats 4000000 in
/-- THE BODY AT points 1 to 36: a column step runs. What its stores leave in each memref, as pieces, last first,
    WITH the proof that the body, run on memrefs owned at any contents, hands each memref it does not store into back
    as it was and each other one with its pieces written over what it held. -/
def runB (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : ¬cond0_0 i) (hc1 : cond0_1 i) (hc2 : ¬cond0_2 i) (hc3 : ¬cond0_3 i)
    (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    Σ' (L10 : List (View.Piece (Elt F) S37x768x512 .bf16)), { L11 : List (View.Piece (Elt F) S768x128 .f32) //
      ∀ (E : Set ℕ) (K : PUnit → sProp 𝕄),
        iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13
            ∗ (iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare (arg10.view.read (Elt F) (arg10.view.writes (Elt F) (harg10.unread y10) L10)) ∗ owns (c : Thread nD τ) arg11 fullShare (arg11.view.read (Elt F) (arg11.view.writes (Elt F) (harg11.unread y11) L11)) ∗ owns (c : Thread nD τ) arg12 fullShare y12 ∗ owns (c : Thread nD τ) arg13 fullShare y13) -∗ K ⟨⟩))
          ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_unfold [cc0_swiglu_gate_up_fp8]
    sl_exec_parts (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro; rfl
    isplitl [H11]
    · iexists _; isplitr; swap; · iexact H11
      ipureintro; rfl
    isplitl [H12]
    · iexists _; isplitr; · ipureintro; exact harg12.read_unread _
      iexact H12
    iexists _; isplitr; · ipureintro; exact harg13.read_unread _
    iexact H13

end Cert.Kernel.Body

end
-- ==== Proof.Kernel.RunC.lean ====
/- The body run whole at point 37: the tokens' scales are found and the first 96 rows of the intermediate are quantised. -/
module

public import proofs.«01_k».proof.Proof.Kernel.RunB

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the run's proof term is large: closing the definition walks it past the default budget
set_option maxHeartbeats 4000000 in
/-- THE BODY AT point 37: the tokens' scales are found and the first 96 rows of the intermediate are quantised. What its stores leave in each memref, as pieces, last first,
    WITH the proof that the body, run on memrefs owned at any contents, hands each memref it does not store into back
    as it was and each other one with its pieces written over what it held. -/
def runC (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : ¬cond0_0 i) (hc1 : ¬cond0_1 i) (hc2 : cond0_2 i) (hc3 : cond0_3 i)
    (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    Σ' (L6 : List (View.Piece (Elt F) S768x1 .f32)), Σ' (L7 : List (View.Piece (Elt F) S96x18944 .fp8e4m3)), { L13 : List (View.Piece (Elt F) S768x128 .bf16) //
      ∀ (E : Set ℕ) (K : PUnit → sProp 𝕄),
        iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13
            ∗ (iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare (arg6.view.read (Elt F) (arg6.view.writes (Elt F) (harg6.unread y6) L6)) ∗ owns (c : Thread nD τ) arg7 fullShare (arg7.view.read (Elt F) (arg7.view.writes (Elt F) (harg7.unread y7) L7)) ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare (arg13.view.read (Elt F) (arg13.view.writes (Elt F) (harg13.unread y13) L13))) -∗ K ⟨⟩))
          ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_unfold [cc0_swiglu_gate_up_fp8]
    -- the multipliers are stored, then read at the point's rows: the run goes on over what the buffer then holds, named
    set_option sl_exec.stopBefore "k0_cond4" in sl_exec_parts (disch := first | sl_exact hc0 | sl_exact hc1 | sl_exact hc2 | sl_exact hc3)
    generalize hg13 : arg13.view.writes (Elt F) _ _ = g13
    sl_exec_parts (disch := first | sl_exact hc0 | sl_exact hc1 | sl_exact hc2 | sl_exact hc3)
    subst hg13
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; swap; · iexact H6
      ipureintro; rfl
    isplitl [H7]
    · iexists _; isplitr; swap; · iexact H7
      ipureintro; rfl
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    iexists _; isplitr; swap; · iexact H13
    ipureintro; rfl

end Cert.Kernel.Body

end
-- ==== Proof.Kernel.RunD.lean ====
/- The body run whole at points 38 to 44: 96 rows of the intermediate are quantised. -/
module

public import proofs.«01_k».proof.Proof.Kernel.RunC

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the run's proof term is large: closing the definition walks it past the default budget
set_option maxHeartbeats 4000000 in
/-- THE BODY AT points 38 to 44: 96 rows of the intermediate are quantised. What its stores leave in each memref, as pieces, last first,
    WITH the proof that the body, run on memrefs owned at any contents, hands each memref it does not store into back
    as it was and each other one with its pieces written over what it held. -/
def runD (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : ¬cond0_0 i) (hc1 : ¬cond0_1 i) (hc2 : ¬cond0_2 i) (hc3 : cond0_3 i)
    (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    { L7 : List (View.Piece (Elt F) S96x18944 .fp8e4m3) //
      ∀ (E : Set ℕ) (K : PUnit → sProp 𝕄),
        iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13
            ∗ (iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare (arg7.view.read (Elt F) (arg7.view.writes (Elt F) (harg7.unread y7) L7)) ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13) -∗ K ⟨⟩))
          ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_unfold [cc0_swiglu_gate_up_fp8]
    sl_exec_parts (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro; rfl
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    iexists _; isplitr; · ipureintro; exact harg13.read_unread _
    iexact H13

end Cert.Kernel.Body

end
-- ==== Proof.Kernel.Frame.lean ====
/- THE FRAME of the program at its bits: every weakly fair execution ends, with the argument arrays unchanged and every
   semaphore counter at zero. Nothing is stated of what the kernel computes: the four results and the scratch are held
   at some contents throughout. -/
module

public import proofs.«01_k».proof.Proof.Kernel.RunD
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows nothing is stated of: the four results. -/
def forgets0 : Fin 9 → Bool := fun w => w.val == 5 || w.val == 6 || w.val == 7 || w.val == 8

/-- The proof data of the one pipeline on core `c`: the arrays as the region finds them; after the body at a point each
    input's buffer at its block and the results at some contents; the scratch at some contents throughout; nothing owed;
    each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- An input is never idle: what the body leaves in it is its block. -/
theorem leaves0 (c : Dev nD) (t : Fin cfg0.N) (w : Fin cfg0.W) (hw : cfg0.idle w (cfg0.grid.coords t) = false) :
    (dats m 0 c).leavesExact w t = owns (c : Thread nD τ) ((cfg0.win w).stage (cfg0.slots t w)) fullShare ((dats m 0 c).after w t) := by
  unfold Dat.leavesExact; rw [hw]

set_option maxHeartbeats 4000000 in
/-- The body at any point: the inputs' memrefs hold their blocks; the point's case is found by arithmetic and its run
    applies; every buffer it stored into is handed back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [leaves0 m c t 0 (liveAt0_0 t), leaves0 m c t 1 (liveAt0_1 t), leaves0 m c t 2 (liveAt0_2 t), leaves0 m c t 3 (liveAt0_3 t), leaves0 m c t 4 (liveAt0_4 t), after0_0, after0_1, after0_2, after0_3, after0_4]
  have hN : t.val < 45 := lt_of_lt_of_eq t.isLt (show cfg0.N = 45 from N_0)
  iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases hA : t.val = 0
  · iapply ((runA c (grid0.coords t) _ _ _ _ _ _ _ _ _ _ _ _ _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) d5 d6 d7 d8 s0 s1 s2 s3).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iexists _; iexact H8
  by_cases hB : t.val < 37
  · iapply ((runB c (grid0.coords t) _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) d5 d6 d7 d8 s0 s1 s2 s3).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iexists _; iexact H8
  by_cases hC : t.val = 37
  · iapply ((runC c (grid0.coords t) _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) ((hcond0_3 t).mpr (by omega)) (iblk m c 0 t) (iblk m c 1 t) (iblk m c 2 t) (iblk m c 3 t) (iblk m c 4 t) d5 d6 d7 d8 s0 s1 s2 s3).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iexists _; iexact H8
  · iapply ((runD c (grid0.coords t) _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (iblk m c 0 t) (iblk m c 1 t) (iblk m c 2 t) (iblk m c 3 t) (iblk m c 4 t) d5 d6 d7 d8 s0 s1 s2 s3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iexists _; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant, at the first point and after the last. -/
theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      ((h c).2 main_arg2 (Pipeline.mem_restRefs_of main_arg2 (by decide) (by decide))).trans (V_main_arg2 m c)⟩) h

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_ofR m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Body

end
-- ==== Proof.KernelIdeal.Setup.lean ====
/- What the proof of the body is stated over: the body's branch conditions in closed form over the points, the
   staging memrefs at a point, the scratch buffers, and the region invariant with the scratch named. -/
module

public import proofs.«01_k».proof.Proof.Gen.KernelIdeal.Frame
public import proofs.«01_k».proof.Proof.Gen.KernelIdeal.Skeleton
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-- The condition of the body's `scf.if` 1 (`k0_h2`), from the grid coordinates (the skeleton's scalar
    chain substituted). -/
abbrev cond0_1 (i : grid0.Coords) : Prop := k0_cond2 i = 1#1
/-- It holds at the points before point 37 — decided over the grid. -/
theorem hcond0_1 : ∀ t : Fin cfg0.N, cond0_1 (grid0.coords t) ↔ t.val < 37 :=
  (by decide +kernel : ∀ t : Fin grid0.N, cond0_1 (grid0.coords t) ↔ t.val < 37)

/-- The condition of the body's `scf.if` 2 (`k0_h3`), from the grid coordinates (the skeleton's scalar
    chain substituted). -/
abbrev cond0_2 (i : grid0.Coords) : Prop := k0_cond3 i = 1#1
/-- It holds at point 37 only — decided over the grid. -/
theorem hcond0_2 : ∀ t : Fin cfg0.N, cond0_2 (grid0.coords t) ↔ t.val = 37 :=
  (by decide +kernel : ∀ t : Fin grid0.N, cond0_2 (grid0.coords t) ↔ t.val = 37)

/-- The condition of the body's `scf.if` 3 (`k0_h4`), from the grid coordinates (the skeleton's scalar
    chain substituted). -/
abbrev cond0_3 (i : grid0.Coords) : Prop := k0_cond4 i = 1#1
/-- It holds at the points from point 37 on — decided over the grid. -/
theorem hcond0_3 : ∀ t : Fin cfg0.N, cond0_3 (grid0.coords t) ↔ 37 ≤ t.val :=
  (by decide +kernel : ∀ t : Fin grid0.N, cond0_3 (grid0.coords t) ↔ 37 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S768x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x18944 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x3584 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S37x768x512 .bf16 := Memref.whole cc0_scratch0
abbrev scM0_1 : Memref sig .tc .vmem S768x128 .f32 := Memref.whole cc0_scratch1
abbrev scM0_2 : Memref sig .tc .vmem S768x128 .f32 := Memref.whole cc0_scratch2
abbrev scM0_3 : Memref sig .tc .vmem S768x128 .bf16 := Memref.whole cc0_scratch3

/-- The invariant the launch hands over with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Body

end
-- ==== Proof.KernelIdeal.RunA.lean ====
/- The body run whole at point 0: the activations are quantised and the first column step runs. -/
module

public import proofs.«01_k».proof.Proof.KernelIdeal.Setup

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the run's proof term is large: closing the definition walks it past the default budget
set_option maxHeartbeats 4000000 in
/-- THE BODY AT point 0: the activations are quantised and the first column step runs. What its stores leave in each memref, as pieces, last first,
    WITH the proof that the body, run on memrefs owned at any contents, hands each memref it does not store into back
    as it was and each other one with its pieces written over what it held. -/
def runA (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : cond0_0 i) (hc1 : cond0_1 i) (hc2 : ¬cond0_2 i) (hc3 : ¬cond0_3 i)
    (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    Σ' (L8 : List (View.Piece (Elt F) S768x3584 .fp8e4m3)), Σ' (L9 : List (View.Piece (Elt F) S768x1 .f32)), Σ' (L10 : List (View.Piece (Elt F) S37x768x512 .bf16)), Σ' (L11 : List (View.Piece (Elt F) S768x128 .f32)), { L12 : List (View.Piece (Elt F) S768x128 .f32) //
      ∀ (E : Set ℕ) (K : PUnit → sProp 𝕄),
        iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13
            ∗ (iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare (arg8.view.read (Elt F) (arg8.view.writes (Elt F) (harg8.unread y8) L8)) ∗ owns (c : Thread nD τ) arg9 fullShare (arg9.view.read (Elt F) (arg9.view.writes (Elt F) (harg9.unread y9) L9)) ∗ owns (c : Thread nD τ) arg10 fullShare (arg10.view.read (Elt F) (arg10.view.writes (Elt F) (harg10.unread y10) L10)) ∗ owns (c : Thread nD τ) arg11 fullShare (arg11.view.read (Elt F) (arg11.view.writes (Elt F) (harg11.unread y11) L11)) ∗ owns (c : Thread nD τ) arg12 fullShare (arg12.view.read (Elt F) (arg12.view.writes (Elt F) (harg12.unread y12) L12)) ∗ owns (c : Thread nD τ) arg13 fullShare y13) -∗ K ⟨⟩))
          ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_unfold [cc0_swiglu_gate_up_fp8]
    sl_exec_parts (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    iexists _; isplitr; · ipureintro; exact harg13.read_unread _
    iexact H13

end Cert.KernelIdeal.Body

end
-- ==== Proof.KernelIdeal.RunB.lean ====
/- The body run whole at points 1 to 36: a column step runs. -/
module

public import proofs.«01_k».proof.Proof.KernelIdeal.RunA

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the run's proof term is large: closing the definition walks it past the default budget
set_option maxHeartbeats 4000000 in
/-- THE BODY AT points 1 to 36: a column step runs. What its stores leave in each memref, as pieces, last first,
    WITH the proof that the body, run on memrefs owned at any contents, hands each memref it does not store into back
    as it was and each other one with its pieces written over what it held. -/
def runB (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : ¬cond0_0 i) (hc1 : cond0_1 i) (hc2 : ¬cond0_2 i) (hc3 : ¬cond0_3 i)
    (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    Σ' (L10 : List (View.Piece (Elt F) S37x768x512 .bf16)), { L11 : List (View.Piece (Elt F) S768x128 .f32) //
      ∀ (E : Set ℕ) (K : PUnit → sProp 𝕄),
        iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13
            ∗ (iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare (arg10.view.read (Elt F) (arg10.view.writes (Elt F) (harg10.unread y10) L10)) ∗ owns (c : Thread nD τ) arg11 fullShare (arg11.view.read (Elt F) (arg11.view.writes (Elt F) (harg11.unread y11) L11)) ∗ owns (c : Thread nD τ) arg12 fullShare y12 ∗ owns (c : Thread nD τ) arg13 fullShare y13) -∗ K ⟨⟩))
          ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_unfold [cc0_swiglu_gate_up_fp8]
    sl_exec_parts (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro; rfl
    isplitl [H11]
    · iexists _; isplitr; swap; · iexact H11
      ipureintro; rfl
    isplitl [H12]
    · iexists _; isplitr; · ipureintro; exact harg12.read_unread _
      iexact H12
    iexists _; isplitr; · ipureintro; exact harg13.read_unread _
    iexact H13

end Cert.KernelIdeal.Body

end
-- ==== Proof.KernelIdeal.RunC.lean ====
/- The body run whole at point 37: the tokens' scales are found and the first 96 rows of the intermediate are quantised. -/
module

public import proofs.«01_k».proof.Proof.KernelIdeal.RunB

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the run's proof term is large: closing the definition walks it past the default budget
set_option maxHeartbeats 4000000 in
/-- THE BODY AT point 37: the tokens' scales are found and the first 96 rows of the intermediate are quantised. What its stores leave in each memref, as pieces, last first,
    WITH the proof that the body, run on memrefs owned at any contents, hands each memref it does not store into back
    as it was and each other one with its pieces written over what it held. -/
def runC (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : ¬cond0_0 i) (hc1 : ¬cond0_1 i) (hc2 : cond0_2 i) (hc3 : cond0_3 i)
    (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    Σ' (L6 : List (View.Piece (Elt F) S768x1 .f32)), Σ' (L7 : List (View.Piece (Elt F) S96x18944 .fp8e4m3)), { L13 : List (View.Piece (Elt F) S768x128 .bf16) //
      ∀ (E : Set ℕ) (K : PUnit → sProp 𝕄),
        iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13
            ∗ (iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare (arg6.view.read (Elt F) (arg6.view.writes (Elt F) (harg6.unread y6) L6)) ∗ owns (c : Thread nD τ) arg7 fullShare (arg7.view.read (Elt F) (arg7.view.writes (Elt F) (harg7.unread y7) L7)) ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare (arg13.view.read (Elt F) (arg13.view.writes (Elt F) (harg13.unread y13) L13))) -∗ K ⟨⟩))
          ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_unfold [cc0_swiglu_gate_up_fp8]
    -- the multipliers are stored, then read at the point's rows: the run goes on over what the buffer then holds, named
    set_option sl_exec.stopBefore "k0_cond4" in sl_exec_parts (disch := first | sl_exact hc0 | sl_exact hc1 | sl_exact hc2 | sl_exact hc3)
    generalize hg13 : arg13.view.writes (Elt F) _ _ = g13
    sl_exec_parts (disch := first | sl_exact hc0 | sl_exact hc1 | sl_exact hc2 | sl_exact hc3)
    subst hg13
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; swap; · iexact H6
      ipureintro; rfl
    isplitl [H7]
    · iexists _; isplitr; swap; · iexact H7
      ipureintro; rfl
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    iexists _; isplitr; swap; · iexact H13
    ipureintro; rfl

end Cert.KernelIdeal.Body

end
-- ==== Proof.KernelIdeal.RunD.lean ====
/- The body run whole at points 38 to 44: 96 rows of the intermediate are quantised. -/
module

public import proofs.«01_k».proof.Proof.KernelIdeal.RunC

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the run's proof term is large: closing the definition walks it past the default budget
set_option maxHeartbeats 4000000 in
/-- THE BODY AT points 38 to 44: 96 rows of the intermediate are quantised. What its stores leave in each memref, as pieces, last first,
    WITH the proof that the body, run on memrefs owned at any contents, hands each memref it does not store into back
    as it was and each other one with its pieces written over what it held. -/
def runD (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : ¬cond0_0 i) (hc1 : ¬cond0_1 i) (hc2 : ¬cond0_2 i) (hc3 : cond0_3 i)
    (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    { L7 : List (View.Piece (Elt F) S96x18944 .fp8e4m3) //
      ∀ (E : Set ℕ) (K : PUnit → sProp 𝕄),
        iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13
            ∗ (iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare (arg7.view.read (Elt F) (arg7.view.writes (Elt F) (harg7.unread y7) L7)) ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13) -∗ K ⟨⟩))
          ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_unfold [cc0_swiglu_gate_up_fp8]
    sl_exec_parts (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro; rfl
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    iexists _; isplitr; · ipureintro; exact harg13.read_unread _
    iexact H13

end Cert.KernelIdeal.Body

end
-- ==== Proof.KernelIdeal.Frame.lean ====
/- THE FRAME of the program: every weakly fair execution ends, with the argument arrays unchanged and every
   semaphore counter at zero. Nothing is stated of what the kernel computes: the four results and the scratch are held
   at some contents throughout. -/
module

public import proofs.«01_k».proof.Proof.KernelIdeal.RunD
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows nothing is stated of: the four results. -/
def forgets0 : Fin 9 → Bool := fun w => w.val == 5 || w.val == 6 || w.val == 7 || w.val == 8

/-- The proof data of the one pipeline on core `c`: the arrays as the region finds them; after the body at a point each
    input's buffer at its block and the results at some contents; the scratch at some contents throughout; nothing owed;
    each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- An input is never idle: what the body leaves in it is its block. -/
theorem leaves0 (c : Dev nD) (t : Fin cfg0.N) (w : Fin cfg0.W) (hw : cfg0.idle w (cfg0.grid.coords t) = false) :
    (dats m 0 c).leavesExact w t = owns (c : Thread nD τ) ((cfg0.win w).stage (cfg0.slots t w)) fullShare ((dats m 0 c).after w t) := by
  unfold Dat.leavesExact; rw [hw]

set_option maxHeartbeats 4000000 in
/-- The body at any point: the inputs' memrefs hold their blocks; the point's case is found by arithmetic and its run
    applies; every buffer it stored into is handed back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [leaves0 m c t 0 (liveAt0_0 t), leaves0 m c t 1 (liveAt0_1 t), leaves0 m c t 2 (liveAt0_2 t), leaves0 m c t 3 (liveAt0_3 t), leaves0 m c t 4 (liveAt0_4 t), after0_0, after0_1, after0_2, after0_3, after0_4]
  have hN : t.val < 45 := lt_of_lt_of_eq t.isLt (show cfg0.N = 45 from N_0)
  iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases hA : t.val = 0
  · iapply ((runA c (grid0.coords t) _ _ _ _ _ _ _ _ _ _ _ _ _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) d5 d6 d7 d8 s0 s1 s2 s3).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iexists _; iexact H8
  by_cases hB : t.val < 37
  · iapply ((runB c (grid0.coords t) _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) d5 d6 d7 d8 s0 s1 s2 s3).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iexists _; iexact H8
  by_cases hC : t.val = 37
  · iapply ((runC c (grid0.coords t) _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) ((hcond0_3 t).mpr (by omega)) (iblk m c 0 t) (iblk m c 1 t) (iblk m c 2 t) (iblk m c 3 t) (iblk m c 4 t) d5 d6 d7 d8 s0 s1 s2 s3).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iexists _; iexact H8
  · iapply ((runD c (grid0.coords t) _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (iblk m c 0 t) (iblk m c 1 t) (iblk m c 2 t) (iblk m c 3 t) (iblk m c 4 t) d5 d6 d7 d8 s0 s1 s2 s3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iexists _; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant, at the first point and after the last. -/
theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      ((h c).2 main_arg2 (Pipeline.mem_restRefs_of main_arg2 (by decide) (by decide))).trans (V_main_arg2 m c)⟩) h

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_ofR m ρ (fun c => (dats m 0 c).toRForget forgets0) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Body

end
-- ==== Proof.KernelIdeal.Steps.lean ====
/- The vectors the body computes, each written once, and the lists of tiles it stores them as: the search of the power of
   two, the codes and scales of the activations, the gated products, their running maximum, and the codes of the
   products. -/
module

public import proofs.«01_k».proof.Proof.Gen.KernelIdeal.Skeleton
public import Idealize.ShloMosaic.Lib.WritesUnit

@[expose] public section

set_option maxRecDepth 16384

noncomputable section

namespace Cert.KernelIdeal.Body

open Idealize.ShloMosaic Idealize.ShloMosaic.TcCoe Idealize.ShloMosaic.Tactic
open Idealize.SL Idealize.SL.RA
open Cert.KernelIdeal.Gen

variable {F : FTy → Type} [FloatOps F]

/-! ## The search of the power of two -/

/-- The word of the f32 `2 ^ (n - 127)`. -/
def pow2 (n : ℕ) : BitVec 32 := BitVec.ofNat 32 (n * 2 ^ 23)

/-- Where `z` is at least the word `thr`, `x` times the word `m`; elsewhere `x`. -/
def upStep {s : Shape} (thr m : BitVec 32) (z x : FVec F s .f32) : FVec F s .f32 :=
  select (cmpf .oge z (broadcast s (Scalar.ofBits .f32 thr))) (mulf x (broadcast s (Scalar.ofBits .f32 m))) x

/-- Where `z` is below the word `thr`, `x` times the word `m`; elsewhere `x`. -/
def downStep {s : Shape} (thr m : BitVec 32) (z x : FVec F s .f32) : FVec F s .f32 :=
  select (cmpf .olt z (broadcast s (Scalar.ofBits .f32 thr))) (mulf x (broadcast s (Scalar.ofBits .f32 m))) x

/-- The steps that bring a `z` of at least one down: a step of `k` is taken where `2 ^ (k - 1) ≤ z`, divides `z` by
    `2 ^ k` and multiplies `x` by `2 ^ k`, or by `2 ^ -k` when `x` is the inverse (`inv`). Then the steps `down`. -/
def searchUp {s : Shape} (inv : Bool) (down : FVec F s .f32 → FVec F s .f32 → FVec F s .f32) :
    List ℕ → FVec F s .f32 → FVec F s .f32 → FVec F s .f32
  | [], z, x => down z x
  | k :: L, z, x => searchUp inv down L (upStep (pow2 (126 + k)) (pow2 (127 - k)) z z)
      (upStep (pow2 (126 + k)) (pow2 (bif inv then 127 - k else 127 + k)) z x)

/-- The steps that bring a `z` below one half up: a step of `k` is taken where `z < 2 ^ -k`, multiplies `z` by `2 ^ k`
    and `x` by `2 ^ -k`, or by `2 ^ k` when `x` is the inverse (`inv`). -/
def searchDown {s : Shape} (inv : Bool) : List ℕ → FVec F s .f32 → FVec F s .f32 → FVec F s .f32
  | [], _, x => x
  | k :: L, z, x => searchDown inv L (downStep (pow2 (127 - k)) (pow2 (127 + k)) z z)
      (downStep (pow2 (127 - k)) (pow2 (bif inv then 127 + k else 127 - k)) z x)

/-- The exponents tried on the way down. -/
abbrev upSteps : List ℕ := [64, 32, 16, 8, 4, 2, 1, 1]
/-- The exponents tried on the way up. -/
abbrev downSteps : List ℕ := [64, 32, 16, 16, 8, 4, 4, 2, 1, 1]

/-- The scale (or, with `inv`, its inverse) of rows of largest magnitude `a`, with `y` the 448th of `a`: the power of two
    found from `y`, and one where `a` or `y` is zero or `y` is infinite. -/
def scaleOf {s : Shape} (inv : Bool) (a y : FVec F s .f32) : FVec F s .f32 :=
  select (ori (ori (cmpf .oeq a (broadcast s (Scalar.ofBits .f32 0x00000000#32)))
      (cmpf .oeq y (broadcast s (Scalar.ofBits .f32 0x00000000#32))))
      (cmpf .oeq y (broadcast s (Scalar.ofBits .f32 0x7F800000#32))))
    (broadcast s (Scalar.ofBits .f32 0x3F800000#32))
    (searchUp inv (searchDown inv downSteps) upSteps y (broadcast s (Scalar.ofBits .f32 0x3F800000#32)))

/-! ## The activations -/

/-- The scales of 256 rows of activations. -/
def xScale (v : Vec F S256x3584 .bf16) : FVec F S256x1 .f32 := scaleOf false (k0_pay7 v) (k0_pay8 v)
/-- Their inverses. -/
def xInv (v : Vec F S256x3584 .bf16) : FVec F S256x1 .f32 := scaleOf true (k0_pay7 v) (k0_pay8 v)
/-- The codes of 256 rows of activations. -/
def xCodes (v : Vec F S256x3584 .bf16) : FVec F S256x3584 .fp8e4m3 :=
  k0_pay58 (k0_pay6 v) (broadcastTo S256x3584 (xInv v) broadcasts_S256x1_S256x3584)

/-- The three row blocks of 256 of a 768-row buffer. -/
abbrev offR (q : Fin 3) : Fin 2 → ℕ := ![256 * q.val, 0]

/-- Three row blocks stored one after another, all columns each. -/
theorem inbX : ∀ (q : Fin 3) (a : Fin S768x3584.rank), offR q a + S256x3584.size a ≤ S768x3584.size a := by decide
theorem inb1 : ∀ (q : Fin 3) (a : Fin S768x1.rank), offR q a + S256x1.size a ≤ S768x1.size a := by decide
theorem inbL : ∀ (q : Fin 3) (a : Fin S768x128.rank), offR q a + S256x128.size a ≤ S768x128.size a := by decide

/-- The stores of the codes of the activations `x q`, by row blocks. -/
def xcPieces (x : Fin 3 → Vec F S256x3584 .bf16) : List (View.Piece (Elt F) S768x3584 .fp8e4m3) :=
  View.tilePieces (NT := 3) S256x3584.size offR inbX (fun q => xCodes (x q)) 3 le_rfl
/-- The stores of their scales. -/
def xsPieces (x : Fin 3 → Vec F S256x3584 .bf16) : List (View.Piece (Elt F) S768x1 .f32) :=
  View.tilePieces (NT := 3) S256x1.size offR inb1 (fun q => xScale (x q)) 3 le_rfl
/-- The stores of their scales along the lanes. -/
def xsbPieces (x : Fin 3 → Vec F S256x3584 .bf16) : List (View.Piece (Elt F) S768x128 .f32) :=
  View.tilePieces (NT := 3) S256x128.size offR inbL (fun q => k0_pay59 (xScale (x q))) 3 le_rfl

/-! ## One column step -/

/-- The gated product of 128 columns: the columns from `off` of the two products `g` and `u`, scaled. -/
def gated (off : Fin 2 → ℕ) (h : Shape.Slices S256x512 off S256x128) (g u : FVec F S256x512 .f32)
    (xs : Vec F S256x128 .f32) (sg su : Vec F S1x128 .f32) : FVec F S256x128 .f32 :=
  have gate := mulf (mulf (extractStridedSlice S256x128 off g h) xs)
    (broadcastTo S256x128 (shapeCast S1x128 sg shapeCasts_S1x128_S1x128) broadcasts_S1x128_S256x128)
  have up := mulf (mulf (extractStridedSlice S256x128 off u h) xs)
    (broadcastTo S256x128 (shapeCast S1x128 su shapeCasts_S1x128_S1x128) broadcasts_S1x128_S256x128)
  mulf (mulf gate (logistic gate)) up

/-- The columns from `128 c` of 512. -/
abbrev offC (c : ℕ) : Fin 2 → ℕ := ![0, 128 * c]
theorem slicesC : ∀ c : Fin 4, Shape.Slices S256x512 (offC c.val) S256x128 := by decide

/-- The four column blocks of a row of 512 scales. -/
theorem inbS : ∀ (k : Fin 4) (a : Fin S1x512.rank), offC k.val a + S1x128.size a ≤ S1x512.size a := by decide

/-- The gated products of row block `q` and column block `c` of a step: from the codes `xq` of the rows, their scales
    `xs`, the weights' columns `wg` and `wu` and those columns' scales `sg` and `su`. -/
def prod (xq : Vec F S256x3584 .fp8e4m3) (wg wu : Vec F S3584x512 .fp8e4m3) (xs : Vec F S256x128 .f32)
    (sg su : Fin 4 → Vec F S1x128 .f32) (c : Fin 4) : FVec F S256x128 .f32 :=
  gated (offC c.val) (slicesC c) (k0_pay165 xq wg) (k0_pay165 xq wu) xs (sg c) (su c)

/-- The row block of tile `n` of a step's twelve, and its column block. -/
abbrev tileQ (n : Fin 12) : Fin 3 := ⟨n.val / 4, by omega⟩
abbrev tileC (n : Fin 12) : Fin 4 := ⟨n.val % 4, by omega⟩

/-- Where tile `n` of a step lies in the buffer of all the products. -/
abbrev offH (i : grid0.Coords) (n : Fin 12) : Fin 3 → ℕ :=
  ![(Scalar.indexCast (BitVec.ofNat 32 (i 0).val) : Index).toNat, 256 * (n.val / 4), 128 * (n.val % 4)]

theorem inbH (i : grid0.Coords) (hc1 : k0_cond2 i = 1#1) :
    ∀ (n : Fin 12) (a : Fin S37x768x512.rank), offH i n a + S1x256x128.size a ≤ S37x768x512.size a := by
  intro n a
  have h0 := k0_off1_inb i hc1 0
  match a with
  | ⟨0, _⟩ => exact h0
  | ⟨1, _⟩ => show 256 * (n.val / 4) + 256 ≤ 768; omega
  | ⟨2, _⟩ => show 128 * (n.val % 4) + 128 ≤ 512; omega

/-- The stores of a step's products: twelve tiles. -/
def hPieces (i : grid0.Coords) (hc1 : k0_cond2 i = 1#1) (xq : Fin 3 → Vec F S256x3584 .fp8e4m3)
    (wg wu : Vec F S3584x512 .fp8e4m3) (xs : Fin 3 → Vec F S256x128 .f32) (sg su : Fin 4 → Vec F S1x128 .f32) :
    List (View.Piece (Elt F) S37x768x512 .bf16) :=
  View.tilePieces (NT := 12) S1x256x128.size (offH i) (inbH i hc1)
    (fun n => k0_pay177 (prod (xq (tileQ n)) wg wu (xs (tileQ n)) sg su (tileC n))) 12 le_rfl

/-- The running maximum of a row block's magnitudes: the magnitude of column block `c` taken into `a`. -/
def maxStep (h : Fin 4 → FVec F S256x128 .f32) (a : FVec F S256x128 .f32) : FVec F S256x128 .f32 :=
  maximumf (maximumf (maximumf (maximumf a (absf (h 0))) (absf (h 1))) (absf (h 2))) (absf (h 3))

/-- The stores of the running maximum: a step's three row blocks, taken into what was held, `a`. -/
def amaxPieces (xq : Fin 3 → Vec F S256x3584 .fp8e4m3)
    (wg wu : Vec F S3584x512 .fp8e4m3) (xs : Fin 3 → Vec F S256x128 .f32) (sg su : Fin 4 → Vec F S1x128 .f32)
    (a : Fin 3 → Vec F S256x128 .f32) : List (View.Piece (Elt F) S768x128 .f32) :=
  View.tilePieces (NT := 3) S256x128.size offR inbL
    (fun q => k0_pay194 (maxStep (prod (xq q) wg wu (xs q) sg su) (a q))) 3 le_rfl

/-- The first step's stores of the running maximum: the zeros of the whole buffer, then the row blocks, each taken into
    what is then held of it (read through the view `v`). -/
def amaxFirst {sig : RefSig} {κ : Kind} {sp : Space} (v : View sig κ sp S768x128 .f32)
    (P : Fin 3 → FVec F S256x128 .f32 → FVec F S256x128 .f32) : (n : ℕ) → n ≤ 3 → List (View.Piece (Elt F) S768x128 .f32)
  | 0, _ => [⟨Rect.unit ![0, 0] S768x128.size inb_S768x128_S768x128_0_0, k0_pay2⟩]
  | n + 1, h => ⟨Rect.unit (offR ⟨n, h⟩) S256x128.size (inbL ⟨n, h⟩),
      k0_pay194 (P ⟨n, h⟩ (v.readCov (amaxFirst v P n (Nat.le_of_succ_le h))
        (Rect.unit (s := S768x128) (offR ⟨n, h⟩) S256x128.size (inbL ⟨n, h⟩)).toLoadRect))⟩ :: amaxFirst v P n (Nat.le_of_succ_le h)

/-! ## The products' codes -/

/-- The scale (or its inverse) of the products' rows, from the lanes' maxima. -/
def hScale (inv : Bool) (v : Vec F S768x128 .f32) : FVec F S768x1 .f32 := scaleOf inv (k0_pay269 v) (k0_pay270 v)

/-- The first of the 96 rows of a point of the quantiser. -/
abbrev rowT (i : grid0.Coords) : ℕ :=
  (Scalar.indexCast (Scalar.muli (Scalar.subi (BitVec.ofNat 32 (i 0).val) 37#32) 96#32) : Index).toNat

/-- Where tile `n` of those rows' products is read, and where its codes are stored. -/
abbrev offT (i : grid0.Coords) (n : Fin 148) : Fin 3 → ℕ := ![n.val / 4, rowT i, 128 * (n.val % 4)]
abbrev offO (n : Fin 148) : Fin 2 → ℕ := ![0, 128 * n.val]

theorem inbT (i : grid0.Coords) (hc3 : k0_cond4 i = 1#1) :
    ∀ (n : Fin 148) (a : Fin S37x768x512.rank), offT i n a + S1x96x128.size a ≤ S37x768x512.size a := by
  intro n a
  have h1 := k0_off14_inb i hc3 1
  match a with
  | ⟨0, _⟩ => show n.val / 4 + 1 ≤ 37; omega
  | ⟨1, _⟩ => exact h1
  | ⟨2, _⟩ => show 128 * (n.val % 4) + 128 ≤ 512; omega

theorem inbO : ∀ (n : Fin 148) (a : Fin S96x18944.rank), offO n a + S96x128.size a ≤ S96x18944.size a := by decide

/-- The stores of the codes of 96 rows: 148 tiles, from those rows' inverse scales `inv` and the products' tiles. -/
def hcPieces (inv : Vec F S96x128 .bf16) (h : Fin 148 → Vec F S1x96x128 .bf16) :
    List (View.Piece (Elt F) S96x18944 .fp8e4m3) :=
  View.tilePieces (NT := 148) S96x128.size offO inbO (fun n => k0_pay320 inv (h n)) 148 le_rfl

end Cert.KernelIdeal.Body
-- ==== Proof.Scale.lean ====
/- The scale of a row, over the extended reals: the power of two `2 ^ e` of the exponent of a 448th of the row's largest
   magnitude, as a logarithm gives it and as a search by comparisons finds it. -/
module

public import Idealize.ShloMosaic.Lib.Pointwise
public import Mathlib.Analysis.SpecialFunctions.Log.Basic

@[expose] public section

set_option maxRecDepth 16384

noncomputable section

namespace Cert.Scale

open Idealize.ShloMosaic

/-! ## Words of powers of two and of the other constants -/

/-- The word of the f32 `2 ^ (n - 127)`. -/
def pow2 (n : ℕ) : BitVec 32 := BitVec.ofNat 32 (n * 2 ^ 23)

theorem pow2_fields : ∀ n : Fin 255, (pow2 n.val).extractLsb' 31 1 = 0#1 ∧ ((pow2 n.val).extractLsb' 23 8).toNat = n.val
    ∧ ((pow2 n.val).extractLsb' 0 23).toNat = 0 := by decide +kernel

theorem ofBits_pow2 (n : ℕ) (h : 0 < n ∧ n < 255) :
    Ideal.ofBits .f32 (pow2 n) = (((2 : ℝ) ^ ((n : ℤ) - 127) : ℝ) : EReal) := by
  obtain ⟨h1, h2, h3⟩ := pow2_fields ⟨n, h.2⟩
  have hz : ((2 : ℝ) ^ 23) * (2 : ℝ) ^ ((n : ℤ) - 127 - 23) = (2 : ℝ) ^ ((n : ℤ) - 127) := by
    rw [← zpow_natCast, ← zpow_add₀ (by norm_num)]
    congr 1; omega
  show Ideal.ieee 8 23 (pow2 n) = _
  unfold Ideal.ieee
  simp only [h1, h2, h3] at *
  rw [if_neg (by omega), if_neg (by omega)]
  congr 1
  rw [← hz]
  norm_num

/-- The f32 nearest 1/448. -/
def c448 : EReal := Ideal.ofBits .f32 0x3B124925#32

theorem c448_nonneg : 0 ≤ c448 := by
  show (0 : EReal) ≤ Ideal.ieee 8 23 (0x3B124925#32)
  unfold Ideal.ieee
  have h1 : (0x3B124925#32).extractLsb' 31 1 = 0#1 := by decide
  have h2 : ((0x3B124925#32).extractLsb' 23 8).toNat = 118 := by decide
  simp only [h1, h2]
  rw [if_neg (by norm_num), if_neg (by norm_num)]
  refine EReal.coe_nonneg.2 ?_
  have : (0#1 == 1#1) = false := by decide
  simp only [this, Bool.false_eq_true, if_false]
  positivity

theorem ofBits_two : Ideal.ofBits .f32 0x40000000#32 = ((2 : ℝ) : EReal) := by
  rw [show (0x40000000#32) = pow2 128 from by decide, ofBits_pow2 128 (by norm_num)]; norm_num

theorem ofBits_128 : Ideal.ofBits .f32 0x43000000#32 = ((128 : ℝ) : EReal) := by
  rw [show (0x43000000#32) = pow2 134 from by decide, ofBits_pow2 134 (by norm_num)]; norm_num

theorem ofBits_m148 : Ideal.ofBits .f32 0xC3140000#32 = ((-148 : ℝ) : EReal) := by
  show Ideal.ieee 8 23 (0xC3140000#32) = _
  unfold Ideal.ieee
  have h1 : (0xC3140000#32).extractLsb' 31 1 = 1#1 := by decide
  have h2 : ((0xC3140000#32).extractLsb' 23 8).toNat = 134 := by decide
  have h3 : ((0xC3140000#32).extractLsb' 0 23).toNat = 0x140000 := by decide
  simp only [h1, h2, h3]
  rw [if_neg (by norm_num), if_neg (by norm_num)]
  congr 1
  norm_num

theorem ofBits_top : Ideal.ofBits .f32 0x7F800000#32 = ⊤ := by
  show Ideal.ieee 8 23 (0x7F800000#32) = _
  unfold Ideal.ieee
  have h1 : (0x7F800000#32).extractLsb' 31 1 = 0#1 := by decide
  have h2 : ((0x7F800000#32).extractLsb' 23 8).toNat = 255 := by decide
  have h3 : ((0x7F800000#32).extractLsb' 0 23).toNat = 0 := by decide
  simp only [h1, h2, h3]
  norm_num

theorem ofBits_bot : Ideal.ofBits .f32 0xFF800000#32 = ⊥ := by
  show Ideal.ieee 8 23 (0xFF800000#32) = _
  unfold Ideal.ieee
  have h1 : (0xFF800000#32).extractLsb' 31 1 = 1#1 := by decide
  have h2 : ((0xFF800000#32).extractLsb' 23 8).toNat = 255 := by decide
  have h3 : ((0xFF800000#32).extractLsb' 0 23).toNat = 0 := by decide
  simp only [h1, h2, h3]
  norm_num

/-! ## The exponent by a logarithm -/

/-- The exponent of `y`: the floor of its base-2 logarithm and one, held to [-148, 128], and zero where `y` is zero or
    infinite. -/
def expo (y : EReal) : EReal :=
  if y = 0 ∨ y = ⊤ then 0
  else min (Ideal.ofBits .f32 0x43000000#32) (max (Ideal.ofBits .f32 0xC3140000#32)
    (Ideal.liftRound Int.floor (Ideal.div (Ideal.log y) (Ideal.log (Ideal.ofBits .f32 0x40000000#32))) + 1))

/-- The scale of a row of largest magnitude `a` (`inv` false) and its inverse. -/
def scale (inv : Bool) (a : EReal) : EReal :=
  Ideal.exp2 (bif inv then 0 - expo (a * c448) else expo (a * c448))

/-- The floor of the base-2 logarithm. -/
def lg (y : ℝ) : ℤ := ⌊Real.log y / Real.log 2⌋

theorem zpow_le_iff {y : ℝ} (hy : 0 < y) (d : ℤ) : (2 : ℝ) ^ d ≤ y ↔ d ≤ lg y := by
  unfold lg
  rw [Int.le_floor, le_div_iff₀ (Real.log_pos (by norm_num)), ← Real.log_zpow,
    Real.log_le_log_iff (by positivity) hy]

/-- An exponent held to [-148, 128]. -/
def held (e : ℤ) : ℤ := min 128 (max (-148) e)

theorem expo_real (y : ℝ) (hy : 0 < y) : expo (y : EReal) = (((held (lg y + 1) : ℤ) : ℝ) : EReal) := by
  have h0 : ¬((y : EReal) = 0 ∨ (y : EReal) = ⊤) := by
    rintro (h | h)
    · exact hy.ne' (EReal.coe_eq_zero.1 h)
    · exact EReal.coe_ne_top y h
  have hl2 : Real.log 2 ≠ 0 := (Real.log_pos (by norm_num)).ne'
  have hdiv : Ideal.div (Ideal.log (y : EReal)) (Ideal.log ((2 : ℝ) : EReal)) = ((Real.log y / Real.log 2 : ℝ) : EReal) := by
    show Ideal.div (if y ≤ 0 then ⊥ else (Real.log y : EReal)) (if (2 : ℝ) ≤ 0 then ⊥ else (Real.log 2 : EReal)) = _
    rw [if_neg (not_le.2 hy), if_neg (by norm_num)]
    unfold Ideal.div
    rw [if_neg (by rw [EReal.coe_eq_zero]; exact hl2), ← EReal.coe_inv, ← EReal.coe_mul]
    rfl
  unfold expo held
  rw [if_neg h0, ofBits_128, ofBits_m148, ofBits_two, hdiv]
  show min ((128 : ℝ) : EReal) (max ((-148 : ℝ) : EReal) (((lg y : ℝ) : EReal) + 1)) = _
  rw [← EReal.coe_one, ← EReal.coe_add, ← (EReal.coe_strictMono.monotone).map_max,
    ← (EReal.coe_strictMono.monotone).map_min]
  congr 1
  push_cast
  rfl

theorem exp2_int (n : ℤ) : Ideal.exp2 (((n : ℝ) : ℝ) : EReal) = (((2 : ℝ) ^ n : ℝ) : EReal) := by
  show ((Real.rpow 2 (n : ℝ) : ℝ) : EReal) = _
  rw [show Real.rpow 2 (n : ℝ) = (2 : ℝ) ^ n from Real.rpow_intCast 2 n]

theorem exp2_zero : Ideal.exp2 0 = 1 := by
  have := exp2_int 0
  simpa using this

/-! ## The exponent by comparisons -/

/-- The exponents tried on the way down. -/
abbrev upSteps : List ℕ := [64, 32, 16, 8, 4, 2, 1, 1]
/-- The exponents tried on the way up. -/
abbrev downSteps : List ℕ := [64, 32, 16, 16, 8, 4, 4, 2, 1, 1]

/-- The exponent found so far, on the way down: `k` more where that is no more than `e`. -/
def upInt (e : ℤ) : List ℕ → ℤ → ℤ
  | [], s => s
  | k :: L, s => upInt e L (if s + k ≤ e then s + k else s)
/-- The exponent found so far, on the way up: `k` less where that is no less than `e`. -/
def downInt (e : ℤ) : List ℕ → ℤ → ℤ
  | [], s => s
  | k :: L, s => downInt e L (if e ≤ s - k then s - k else s)

theorem search_mid : ∀ n : Fin 277, downInt ((n.val : ℤ) - 148) downSteps (upInt ((n.val : ℤ) - 148) upSteps 0)
    = held ((n.val : ℤ) - 148) := by decide +kernel

theorem upInt_all (e : ℤ) : ∀ (L : List ℕ) (s : ℤ), s + (L.sum : ℕ) ≤ e → upInt e L s = s + (L.sum : ℕ)
  | [], s, h => by simp [upInt]
  | k :: L, s, h => by
    rw [List.sum_cons] at h ⊢
    unfold upInt
    rw [if_pos (by omega), upInt_all e L _ (by omega)]
    omega

theorem downInt_all (e : ℤ) : ∀ (L : List ℕ) (s : ℤ), e ≤ s - (L.sum : ℕ) → downInt e L s = s - (L.sum : ℕ)
  | [], s, h => by simp [downInt]
  | k :: L, s, h => by
    rw [List.sum_cons] at h ⊢
    unfold downInt
    rw [if_pos (by omega), downInt_all e L _ (by omega)]
    omega

theorem upInt_none (e : ℤ) : ∀ (L : List ℕ) (s : ℤ), (∀ k ∈ L, 0 < k) → e ≤ s → upInt e L s = s
  | [], s, _, h => rfl
  | k :: L, s, hL, h => by
    have := hL k (List.mem_cons_self ..)
    unfold upInt
    rw [if_neg (by omega), upInt_none e L s (fun j hj => hL j (List.mem_cons_of_mem _ hj)) h]

theorem downInt_none (e : ℤ) : ∀ (L : List ℕ) (s : ℤ), (∀ k ∈ L, 0 < k) → s ≤ e → downInt e L s = s
  | [], s, _, h => rfl
  | k :: L, s, hL, h => by
    have := hL k (List.mem_cons_self ..)
    unfold downInt
    rw [if_neg (by omega), downInt_none e L s (fun j hj => hL j (List.mem_cons_of_mem _ hj)) h]

theorem search_int (e : ℤ) : downInt e downSteps (upInt e upSteps 0) = held e := by
  have hu : upSteps.sum = 128 := by decide
  have hd : downSteps.sum = 148 := by decide
  by_cases h1 : 128 ≤ e
  · rw [upInt_all e upSteps 0 (by rw [hu]; omega), downInt_none e downSteps _ (by decide) (by rw [hu]; omega), hu]
    unfold held; omega
  by_cases h2 : e ≤ -148
  · rw [upInt_none e upSteps 0 (by decide) (by omega), downInt_all e downSteps 0 (by rw [hd]; omega), hd]
    unfold held; omega
  have := search_mid ⟨(e + 148).toNat, by omega⟩
  have he : (((e + 148).toNat : ℕ) : ℤ) - 148 = e := by omega
  rw [he] at this
  exact this

/-- The steps that bring a `z` of at least one down, then the steps `down`. -/
def sUp (inv : Bool) (down : EReal → EReal → EReal) : List ℕ → EReal → EReal → EReal
  | [], z, x => down z x
  | k :: L, z, x => sUp inv down L
      (if Ideal.ofBits .f32 (pow2 (126 + k)) ≤ z then z * Ideal.ofBits .f32 (pow2 (127 - k)) else z)
      (if Ideal.ofBits .f32 (pow2 (126 + k)) ≤ z then x * Ideal.ofBits .f32 (pow2 (bif inv then 127 - k else 127 + k)) else x)

/-- The steps that bring a `z` below one half up. -/
def sDown (inv : Bool) : List ℕ → EReal → EReal → EReal
  | [], _, x => x
  | k :: L, z, x => sDown inv L
      (if z < Ideal.ofBits .f32 (pow2 (127 - k)) then z * Ideal.ofBits .f32 (pow2 (127 + k)) else z)
      (if z < Ideal.ofBits .f32 (pow2 (127 - k)) then x * Ideal.ofBits .f32 (pow2 (bif inv then 127 + k else 127 - k)) else x)

/-- What is left of `y` when the exponent `s` is taken out of it. -/
def left (y : ℝ) (s : ℤ) : EReal := ((y * (2 : ℝ) ^ (-s) : ℝ) : EReal)
/-- The power of two of the exponent `s`, or its inverse. -/
def power (inv : Bool) (s : ℤ) : EReal := (((2 : ℝ) ^ (bif inv then -s else s) : ℝ) : EReal)

theorem left_mul (y : ℝ) (s : ℤ) (n : ℕ) (d : ℤ) (h : 0 < n ∧ n < 255) (hd : (n : ℤ) - 127 = -d) :
    left y s * Ideal.ofBits .f32 (pow2 n) = left y (s + d) := by
  rw [ofBits_pow2 n h, hd]; unfold left
  rw [← EReal.coe_mul, mul_assoc, ← zpow_add₀ (by norm_num)]
  congr 3; omega

theorem power_mul (inv : Bool) (s : ℤ) (n : ℕ) (d : ℤ) (h : 0 < n ∧ n < 255)
    (hd : (n : ℤ) - 127 = bif inv then -d else d) :
    power inv s * Ideal.ofBits .f32 (pow2 n) = power inv (s + d) := by
  rw [ofBits_pow2 n h, hd]; unfold power
  rw [← EReal.coe_mul, ← zpow_add₀ (by norm_num)]
  cases inv <;> simp only [cond_true, cond_false] <;> congr 2; omega

theorem le_left {y : ℝ} (hy : 0 < y) (s d : ℤ) : (((2 : ℝ) ^ d : ℝ) : EReal) ≤ left y s ↔ s + d ≤ lg y := by
  unfold left
  rw [EReal.coe_le_coe_iff, ← zpow_le_iff hy, zpow_neg, le_mul_inv_iff₀ (by positivity),
    ← zpow_add₀ (by norm_num), add_comm]

theorem sDown_real (inv : Bool) {y : ℝ} (hy : 0 < y) : ∀ (L : List ℕ), (∀ k ∈ L, 0 < k ∧ k < 127) → ∀ s : ℤ,
    sDown inv L (left y s) (power inv s) = power inv (downInt (lg y + 1) L s)
  | [], _, s => rfl
  | k :: L, hL, s => by
    obtain ⟨hk0, hk⟩ := hL k (List.mem_cons_self ..)
    have ih := sDown_real inv hy L fun j hj => hL j (List.mem_cons_of_mem _ hj)
    have hc : left y s < Ideal.ofBits .f32 (pow2 (127 - k)) ↔ lg y + 1 ≤ s - k := by
      rw [ofBits_pow2 _ (by omega), ← not_le, le_left hy]
      omega
    unfold sDown downInt
    by_cases h : lg y + 1 ≤ s - k
    · rw [if_pos (hc.2 h), if_pos (hc.2 h), if_pos h, left_mul y s _ (-k) (by omega) (by omega),
        power_mul inv s _ (-k) (by cases inv <;> simp only [cond_true, cond_false] <;> omega)
          (by cases inv <;> simp only [cond_true, cond_false] <;> omega)]
      exact ih _
    · rw [if_neg (fun h' => h (hc.1 h')), if_neg (fun h' => h (hc.1 h')), if_neg h]
      exact ih _

theorem sUp_real (inv : Bool) {y : ℝ} (hy : 0 < y) : ∀ (L : List ℕ), (∀ k ∈ L, 0 < k ∧ k < 127) → ∀ s : ℤ,
    sUp inv (sDown inv downSteps) L (left y s) (power inv s)
      = power inv (downInt (lg y + 1) downSteps (upInt (lg y + 1) L s))
  | [], _, s => sDown_real inv hy downSteps (by decide) s
  | k :: L, hL, s => by
    obtain ⟨hk0, hk⟩ := hL k (List.mem_cons_self ..)
    have ih := sUp_real inv hy L fun j hj => hL j (List.mem_cons_of_mem _ hj)
    have hc : Ideal.ofBits .f32 (pow2 (126 + k)) ≤ left y s ↔ s + k ≤ lg y + 1 := by
      rw [ofBits_pow2 _ (by omega), le_left hy]
      omega
    unfold sUp upInt
    by_cases h : s + k ≤ lg y + 1
    · rw [if_pos (hc.2 h), if_pos (hc.2 h), if_pos h, left_mul y s _ k (by omega) (by omega),
        power_mul inv s _ k (by cases inv <;> simp only [cond_true, cond_false] <;> omega)
          (by cases inv <;> simp only [cond_true, cond_false] <;> omega)]
      exact ih _
    · rw [if_neg (fun h' => h (hc.1 h')), if_neg (fun h' => h (hc.1 h')), if_neg h]
      exact ih _

/-- The search finds the scale that the logarithm gives. -/
theorem search_eq (inv : Bool) (a : EReal) (ha : 0 ≤ a) :
    (if (a = 0 ∨ a * c448 = 0) ∨ a * c448 = ⊤ then 1
      else sUp inv (sDown inv downSteps) upSteps (a * c448) 1) = scale inv a := by
  have hy : 0 ≤ a * c448 := mul_nonneg ha c448_nonneg
  have h0 : a = 0 → a * c448 = 0 := fun h => by rw [h, zero_mul]
  unfold scale
  generalize a * c448 = y at *
  by_cases h : y = 0 ∨ y = ⊤
  · have : expo y = 0 := if_pos h
    rw [if_pos (h.elim (fun h => .inl (.inr h)) .inr), this]
    cases inv <;> simp [exp2_zero]
  · rw [if_neg (by tauto)]
    have hb : y ≠ ⊥ := fun hb => by rw [hb] at hy; exact absurd hy (by simp)
    obtain ⟨r, rfl⟩ : ∃ r : ℝ, (r : EReal) = y := ⟨y.toReal, EReal.coe_toReal (fun h' => h (.inr h')) hb⟩
    have hr : 0 < r := lt_of_le_of_ne (EReal.coe_nonneg.1 hy) fun h' => h (.inl (by rw [← h']; rfl))
    have hs := sUp_real inv hr upSteps (by decide) 0
    rw [search_int] at hs
    have h1 : left r 0 = r := by unfold left; simp
    have h2 : power inv 0 = 1 := by unfold power; cases inv <;> simp
    rw [h1, h2] at hs
    rw [hs, expo_real r hr]
    unfold power
    cases inv
    · exact (exp2_int _).symm
    · show _ = Ideal.exp2 (0 - _)
      rw [zero_sub, ← EReal.coe_neg, ← Int.cast_neg]
      exact (exp2_int _).symm

end Cert.Scale
-- ==== Proof.Spec.lean ====
/- The two results of the quantiser and the gated products, element by element over the extended reals: what both programs
   compute from the activations `X`, the weights `W` and the weights' scales `S`. -/
module

public import proofs.«01_k».proof.Proof.Scale

@[expose] public section

set_option maxRecDepth 16384

noncomputable section

namespace Cert.Spec

open Idealize.ShloMosaic Cert.Scale
open scoped BigOperators

/-- The magnitude of a value. -/
def mag (v : EReal) : EReal := FloatOps.absf (F := Ideal) (φ := .f32) v

theorem mag_nonneg (v : EReal) : 0 ≤ mag v := by
  show (0 : EReal) ≤ max v (-v)
  rcases le_total 0 v with h | h
  · exact le_max_of_le_left h
  · exact le_max_of_le_right (by rwa [EReal.neg_nonneg])

/-- The largest magnitude of a row. -/
def rowMax {n : ℕ} (v : Fin n → EReal) : EReal := Finset.univ.sup fun k => mag (v k)

theorem rowMax_nonneg {n : ℕ} (v : Fin (n + 1) → EReal) : 0 ≤ rowMax v :=
  (mag_nonneg (v 0)).trans (Finset.le_sup (f := fun k => mag (v k)) (Finset.mem_univ 0))

theorem fold_max {n : ℕ} (v : Fin n → EReal) :
    Finset.fold max (Ideal.ofBits .f32 0xFF800000#32) v Finset.univ = Finset.univ.sup v := by
  rw [ofBits_bot]; rfl

/-- A value held to what the codes' format holds. -/
def clip (v : EReal) : EReal := min (Ideal.ofBits .f32 0x43E00000#32) (max (Ideal.ofBits .f32 0xC3E00000#32) v)

theorem top_bf16 : Ideal.ofBits .bf16 0x43E0#16 = Ideal.ofBits .f32 0x43E00000#32 := by
  show Ideal.ieee 8 7 (0x43E0#16) = Ideal.ieee 8 23 (0x43E00000#32)
  unfold Ideal.ieee
  have h1 : (0x43E0#16).extractLsb' 15 1 = 0#1 := by decide
  have h2 : ((0x43E0#16).extractLsb' 7 8).toNat = 135 := by decide
  have h3 : ((0x43E0#16).extractLsb' 0 7).toNat = 0x60 := by decide
  have g1 : (0x43E00000#32).extractLsb' 31 1 = 0#1 := by decide
  have g2 : ((0x43E00000#32).extractLsb' 23 8).toNat = 135 := by decide
  have g3 : ((0x43E00000#32).extractLsb' 0 23).toNat = 0x600000 := by decide
  simp only [h1, h2, h3, g1, g2, g3]
  rw [if_neg (by norm_num), if_neg (by norm_num), if_neg (by norm_num), if_neg (by norm_num)]
  congr 1
  norm_num

theorem bot_bf16 : Ideal.ofBits .bf16 0xC3E0#16 = Ideal.ofBits .f32 0xC3E00000#32 := by
  show Ideal.ieee 8 7 (0xC3E0#16) = Ideal.ieee 8 23 (0xC3E00000#32)
  unfold Ideal.ieee
  have h1 : (0xC3E0#16).extractLsb' 15 1 = 1#1 := by decide
  have h2 : ((0xC3E0#16).extractLsb' 7 8).toNat = 135 := by decide
  have h3 : ((0xC3E0#16).extractLsb' 0 7).toNat = 0x60 := by decide
  have g1 : (0xC3E00000#32).extractLsb' 31 1 = 1#1 := by decide
  have g2 : ((0xC3E00000#32).extractLsb' 23 8).toNat = 135 := by decide
  have g3 : ((0xC3E00000#32).extractLsb' 0 23).toNat = 0x600000 := by decide
  simp only [h1, h2, h3, g1, g2, g3]
  rw [if_neg (by norm_num), if_neg (by norm_num)]
  refine congrArg _ ?_
  norm_num

/-- The scale of a row. -/
def rowScale {n : ℕ} (v : Fin n → EReal) : EReal := scale false (rowMax v)
/-- The codes of a row. -/
def rowCode {n : ℕ} (v : Fin n → EReal) (k : Fin n) : EReal := clip (v k * scale true (rowMax v))

variable (X : Fin 768 → Fin 3584 → EReal) (W : Fin 3584 → Fin 37888 → EReal) (S : Fin 37888 → EReal)

/-- The product of a row of codes with a column of weights, scaled by the row's scale and the column's. -/
def gu (r : Fin 768) (n : Fin 37888) : EReal := (∑ k, rowCode (X r) k * W k n) * rowScale (X r) * S n

/-- Gate and up projection put together. -/
def swiglu (g u : EReal) : EReal := g * Ideal.logistic g * u

/-- The gated product. -/
def h (r : Fin 768) (n : Fin 18944) : EReal :=
  swiglu (gu X W S r ⟨n.val, by omega⟩) (gu X W S r ⟨18944 + n.val, by omega⟩)

/-! ## The four results, of the three arguments -/

/-- The activations' rows, batch after batch. -/
def rowsOf (a : FVec Ideal ⟨3, ![2, 384, 3584]⟩ .bf16) (r : Fin 768) (k : Fin 3584) : EReal :=
  a (ix3 (⟨r.val / 384, by omega⟩ : Fin 2) (⟨r.val % 384, by omega⟩ : Fin 384) k)
/-- The weights. -/
def weightsOf (w : FVec Ideal ⟨2, ![3584, 37888]⟩ .fp8e4m3) (k : Fin 3584) (n : Fin 37888) : EReal := w (ix2 k n)
/-- The weights' scales. -/
def scalesOf (s : FVec Ideal ⟨1, ![37888]⟩ .f32) (n : Fin 37888) : EReal := s (ix1 n)

variable (a : FVec Ideal ⟨3, ![2, 384, 3584]⟩ .bf16) (w : FVec Ideal ⟨2, ![3584, 37888]⟩ .fp8e4m3)
  (s : FVec Ideal ⟨1, ![37888]⟩ .f32)

/-- The gated product of the arguments. -/
def hOf (r : Fin 768) (n : Fin 18944) : EReal := h (rowsOf a) (weightsOf w) (scalesOf s) r n
/-- The products' scales. -/
def resHS : FVec Ideal ⟨2, ![768, 1]⟩ .f32 := fun j => rowScale (hOf a w s (j 0))
/-- The products' codes. -/
def resHC : FVec Ideal ⟨2, ![768, 18944]⟩ .fp8e4m3 := fun j => rowCode (hOf a w s (j 0)) (j 1)
/-- The activations' codes. -/
def resXC : FVec Ideal ⟨2, ![768, 3584]⟩ .fp8e4m3 := fun j => rowCode (rowsOf a (j 0)) (j 1)
/-- The activations' scales. -/
def resXS : FVec Ideal ⟨2, ![768, 1]⟩ .f32 := fun j => rowScale (rowsOf a (j 0))

end Cert.Spec
-- ==== Proof.KernelIdeal.Pure.lean ====
/- What the vectors of Steps hold, element by element, over the extended reals. -/
module

public import proofs.«01_k».proof.Proof.KernelIdeal.Steps
public import proofs.«01_k».proof.Proof.Spec

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Body Cert.Spec

/-! ## The search -/

theorem select_prop {p : Prop} [Decidable p] (x y : EReal) :
    Scalar.select (BitVec.ofBool (decide p)) x y = if p then x else y := by
  by_cases h : p <;> simp [h, Scalar.select]

theorem upStep_at {s : Shape} (thr m : BitVec 32) (z x : FVec Ideal s .f32) (j : s.Idx) :
    upStep (F := Ideal) thr m z x j = if Ideal.ofBits .f32 thr ≤ z j then x j * Ideal.ofBits .f32 m else x j :=
  select_prop _ _

theorem downStep_at {s : Shape} (thr m : BitVec 32) (z x : FVec Ideal s .f32) (j : s.Idx) :
    downStep (F := Ideal) thr m z x j = if z j < Ideal.ofBits .f32 thr then x j * Ideal.ofBits .f32 m else x j :=
  select_prop _ _

theorem searchDown_at {s : Shape} (inv : Bool) (j : s.Idx) : ∀ (L : List ℕ) (z x : FVec Ideal s .f32),
    searchDown (F := Ideal) inv L z x j = Scale.sDown inv L (z j) (x j)
  | [], _, _ => rfl
  | k :: L, z, x => by
    unfold searchDown Scale.sDown
    rw [searchDown_at inv j L, downStep_at, downStep_at]
    rfl

theorem searchUp_at {s : Shape} (inv : Bool) (down : FVec Ideal s .f32 → FVec Ideal s .f32 → FVec Ideal s .f32)
    (d : EReal → EReal → EReal) (j : s.Idx) (hd : ∀ z x, down z x j = d (z j) (x j)) : ∀ (L : List ℕ) (z x : FVec Ideal s .f32),
    searchUp (F := Ideal) inv down L z x j = Scale.sUp inv d L (z j) (x j)
  | [], z, x => hd z x
  | k :: L, z, x => by
    unfold searchUp Scale.sUp
    rw [searchUp_at inv down d j hd L, upStep_at, upStep_at]
    rfl

theorem select_or3 {a b c : Prop} [Decidable a] [Decidable b] [Decidable c] (x y : EReal) :
    Scalar.select (IntOp.ori (IntOp.ori (BitVec.ofBool (decide a)) (BitVec.ofBool (decide b))) (BitVec.ofBool (decide c))) x y
      = if (a ∨ b) ∨ c then x else y := by
  by_cases ha : a <;> by_cases hb : b <;> by_cases hc : c <;> simp [ha, hb, hc, Scalar.select, IntOp.ori] <;> rfl

theorem scaleOf_at {s : Shape} (inv : Bool) (a y : FVec Ideal s .f32) (j : s.Idx) (hy : y j = a j * Scale.c448) (ha : 0 ≤ a j) :
    scaleOf (F := Ideal) inv a y j = Scale.scale inv (a j) := by
  rw [← Scale.search_eq inv (a j) ha, ← hy]
  have h1 : Ideal.ofBits .f32 0x3F800000#32 = 1 := by
    rw [show (0x3F800000#32) = Scale.pow2 127 from by decide, Scale.ofBits_pow2 127 (by norm_num)]; norm_num
  have h0 : Ideal.ofBits .f32 0x00000000#32 = 0 := by
    show Ideal.ieee 8 23 (0x00000000#32) = 0
    unfold Ideal.ieee
    have e2 : ((0x00000000#32).extractLsb' 23 8).toNat = 0 := by decide
    have e3 : ((0x00000000#32).extractLsb' 0 23).toNat = 0 := by decide
    simp only [e2, e3]
    norm_num
  have hs := searchUp_at inv (searchDown (F := Ideal) inv downSteps) (Scale.sDown inv Scale.downSteps) j
    (fun z x => searchDown_at inv j downSteps z x) upSteps y (broadcast s (Scalar.ofBits (F := Ideal) .f32 0x3F800000#32))
  unfold scaleOf
  show Scalar.select (IntOp.ori (IntOp.ori (BitVec.ofBool (decide (a j = Ideal.ofBits .f32 0x00000000#32)))
    (BitVec.ofBool (decide (y j = Ideal.ofBits .f32 0x00000000#32)))) (BitVec.ofBool (decide (y j = Ideal.ofBits .f32 0x7F800000#32))))
    (Ideal.ofBits .f32 0x3F800000#32) _ = _
  rw [select_or3, hs, Scale.ofBits_top, h0]
  show (if _ then Ideal.ofBits .f32 0x3F800000#32 else Scale.sUp inv _ _ (y j) (Ideal.ofBits .f32 0x3F800000#32)) = _
  rw [h1]

/-! ## The activations -/

theorem pay6_at (v : FVec Ideal S256x3584 .bf16) (r : Fin 256) (k : Fin 3584) : k0_pay6 (F := Ideal) v (ix2 r k) = v (ix2 r k) := by
  pointwise [k0_pay6]

theorem pay7_at (v : FVec Ideal S256x3584 .bf16) (r : Fin 256) (q : Fin 1) :
    k0_pay7 (F := Ideal) v (ix2 r q) = rowMax fun k : Fin 3584 => v (ix2 r k) := by
  pointwise [k0_pay7, k0_pay6]
  exact fold_max _

theorem pay8_at (v : FVec Ideal S256x3584 .bf16) (r : Fin 256) (q : Fin 1) :
    k0_pay8 (F := Ideal) v (ix2 r q) = k0_pay7 (F := Ideal) v (ix2 r q) * Scale.c448 := by
  pointwise [k0_pay8]
  rfl

theorem xScale_at (v : FVec Ideal S256x3584 .bf16) (r : Fin 256) (q : Fin 1) :
    xScale (F := Ideal) v (ix2 r q) = rowScale fun k : Fin 3584 => v (ix2 r k) := by
  unfold xScale
  rw [scaleOf_at false _ _ _ (pay8_at v r q) (by rw [pay7_at]; exact rowMax_nonneg (n := 3583) _), pay7_at]
  rfl

theorem xInv_at (v : FVec Ideal S256x3584 .bf16) (r : Fin 256) (q : Fin 1) :
    xInv (F := Ideal) v (ix2 r q) = Scale.scale true (rowMax fun k : Fin 3584 => v (ix2 r k)) := by
  unfold xInv
  rw [scaleOf_at true _ _ _ (pay8_at v r q) (by rw [pay7_at]; exact rowMax_nonneg (n := 3583) _), pay7_at]

theorem xCodes_at (v : FVec Ideal S256x3584 .bf16) (r : Fin 256) (k : Fin 3584) :
    xCodes (F := Ideal) v (ix2 r k) = rowCode (fun k : Fin 3584 => v (ix2 r k)) k := by
  pointwise [xCodes, k0_pay58]
  rw [xInv_at, pay6_at]
  rfl

theorem pay59_at (v : FVec Ideal S256x1 .f32) (r : Fin 256) (l : Fin 128) : k0_pay59 (F := Ideal) v (ix2 r l) = v (ix2 r 0) := by
  pointwise [k0_pay59]

/-! ## The products -/

theorem prod_at (xq : FVec Ideal S256x3584 .fp8e4m3) (wg wu : FVec Ideal S3584x512 .fp8e4m3) (xs : FVec Ideal S256x128 .f32)
    (sg su : Fin 4 → FVec Ideal S1x128 .f32) (c : Fin 4) (r : Fin 256) (l : Fin 128) :
    prod (F := Ideal) xq wg wu xs sg su c (ix2 r l)
      = swiglu ((∑ k : Fin 3584, xq (ix2 r k) * wg (ix2 k (⟨128 * c.val + l.val, by omega⟩ : Fin 512))) * xs (ix2 r l) * sg c (ix2 0 l))
        ((∑ k : Fin 3584, xq (ix2 r k) * wu (ix2 k (⟨128 * c.val + l.val, by omega⟩ : Fin 512))) * xs (ix2 r l) * su c (ix2 0 l)) := by
  pointwise [prod, gated, k0_pay165, k0_pay164, offC]
  rfl

theorem maxStep_at (h : Fin 4 → FVec Ideal S256x128 .f32) (a : FVec Ideal S256x128 .f32) (r : Fin 256) (l : Fin 128) :
    k0_pay194 (maxStep (F := Ideal) h a) (ix2 r l)
      = max (max (max (max (a (ix2 r l)) (mag (h 0 (ix2 r l)))) (mag (h 1 (ix2 r l)))) (mag (h 2 (ix2 r l)))) (mag (h 3 (ix2 r l))) := by
  pointwise [k0_pay194, maxStep]
  rfl

theorem pay2_at (r : Fin 768) (l : Fin 128) : k0_pay2 (F := Ideal) (ix2 r l) = 0 := by
  pointwise [k0_pay2]

/-! ## The products' codes -/

theorem pay269_at (v : FVec Ideal S768x128 .f32) (r : Fin 768) (q : Fin 1) :
    k0_pay269 (F := Ideal) v (ix2 r q) = Finset.univ.sup fun l : Fin 128 => v (ix2 r l) := by
  pointwise [k0_pay269]
  exact fold_max _

theorem pay270_at (v : FVec Ideal S768x128 .f32) (r : Fin 768) (q : Fin 1) :
    k0_pay270 (F := Ideal) v (ix2 r q) = k0_pay269 (F := Ideal) v (ix2 r q) * Scale.c448 := by
  pointwise [k0_pay270]
  rfl

theorem hScale_at (inv : Bool) (v : FVec Ideal S768x128 .f32) (r : Fin 768) (q : Fin 1) (h : 0 ≤ Finset.univ.sup fun l : Fin 128 => v (ix2 r l)) :
    hScale (F := Ideal) inv v (ix2 r q) = Scale.scale inv (Finset.univ.sup fun l : Fin 128 => v (ix2 r l)) := by
  unfold hScale
  rw [scaleOf_at inv _ _ _ (pay270_at v r q) (by rw [pay269_at]; exact h), pay269_at]

theorem pay5_at (v : FVec Ideal S768x1 .f32) (r : Fin 768) (l : Fin 128) : k0_pay5 (F := Ideal) v (ix2 r l) = v (ix2 r 0) := by
  pointwise [k0_pay5]

theorem pay320_at (inv : FVec Ideal S96x128 .bf16) (h : FVec Ideal S1x96x128 .bf16) (r : Fin 96) (l : Fin 128) :
    k0_pay320 (F := Ideal) inv h (ix2 r l) = clip (h (ix3 0 r l) * inv (ix2 r l)) := by
  pointwise [k0_pay320]
  rw [top_bf16, bot_bf16]
  rfl

end Cert.KernelIdeal.Value
-- ==== Proof.KernelIdeal.Round.lean ====
/- Rounding to odd changes nothing over the extended reals: a value its own rounding equals is kept. -/
module

public import proofs.«01_k».proof.Proof.KernelIdeal.Pure

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Body Cert.Spec

/-- Where a value is its own rounding it is kept, elsewhere it is rounded to odd. -/
theorem round_split (v : FVec Ideal S256x128 .f32) : ∃ odd : FVec Ideal S256x128 .f32,
    k0_pay177 (F := Ideal) v = shapeCast S1x256x128 (truncf (F := Ideal) .bf16
      (select (cmpf (F := Ideal) .oeq (extf (F := Ideal) .f32 (truncf (F := Ideal) .bf16 v bitsLt_bf16_f32) bitsLt_bf16_f32) v)
        (extf (F := Ideal) .f32 (truncf (F := Ideal) .bf16 v bitsLt_bf16_f32) bitsLt_bf16_f32) odd) bitsLt_bf16_f32)
      shapeCasts_S256x128_S1x256x128 := ⟨_, rfl⟩

theorem pay177_at (v : FVec Ideal S256x128 .f32) (q : Fin 1) (r : Fin 256) (l : Fin 128) :
    k0_pay177 (F := Ideal) v (ix3 q r l) = v (ix2 r l) := by
  obtain ⟨odd, h⟩ := round_split v
  rw [h]
  pointwise

end Cert.KernelIdeal.Value
-- ==== Proof.RowMax.lean ====
/- The largest magnitude of a row of 18944 taken in 37 steps of four blocks of 128 lanes, lane by lane, and then over the
   lanes. -/
module

public import proofs.«01_k».proof.Proof.Spec

@[expose] public section

set_option maxRecDepth 16384

noncomputable section

namespace Cert.Spec

open Idealize.ShloMosaic

variable (H : Fin 768 → Fin 18944 → EReal)

/-- The row's value at a column, zero past the last. -/
def ext (r : Fin 768) (n : ℕ) : EReal := if h : n < 18944 then H r ⟨n, h⟩ else 0

theorem ext_lt (r : Fin 768) (n : ℕ) (h : n < 18944) : ext H r n = H r ⟨n, h⟩ := dif_pos h

/-- The lane's maximum after `t` steps. -/
def am : ℕ → Fin 768 → Fin 128 → EReal
  | 0, _, _ => 0
  | t + 1, r, l => max (max (max (max (am t r l) (mag (ext H r (512 * t + (128 * 0 + l.val)))))
      (mag (ext H r (512 * t + (128 * 1 + l.val))))) (mag (ext H r (512 * t + (128 * 2 + l.val)))))
      (mag (ext H r (512 * t + (128 * 3 + l.val))))

theorem am_succ (t : ℕ) (r : Fin 768) (l : Fin 128) :
    am H (t + 1) r l = max (max (max (max (am H t r l) (mag (ext H r (512 * t + (128 * 0 + l.val)))))
      (mag (ext H r (512 * t + (128 * 1 + l.val))))) (mag (ext H r (512 * t + (128 * 2 + l.val)))))
      (mag (ext H r (512 * t + (128 * 3 + l.val)))) := rfl

theorem am_nonneg (r : Fin 768) (l : Fin 128) : ∀ t, 0 ≤ am H t r l
  | 0 => le_refl _
  | t + 1 => (am_nonneg r l t).trans (le_max_of_le_left (le_max_of_le_left (le_max_of_le_left (le_max_left _ _))))

theorem am_mono (r : Fin 768) (l : Fin 128) (s : ℕ) : ∀ t, s ≤ t → am H s r l ≤ am H t r l
  | 0, h => by rw [Nat.le_zero.1 h]
  | t + 1, h => by
    rcases Nat.lt_or_ge t s with h' | h'
    · rw [show s = t + 1 by omega]
    · exact (am_mono r l s t h').trans (le_max_of_le_left (le_max_of_le_left (le_max_of_le_left (le_max_left _ _))))

theorem mag_le (r : Fin 768) (n : ℕ) : mag (ext H r n) ≤ rowMax (H r) := by
  by_cases h : n < 18944
  · rw [ext_lt H r n h]
    exact Finset.le_sup (f := fun k => mag (H r k)) (Finset.mem_univ (⟨n, h⟩ : Fin 18944))
  · rw [show ext H r n = 0 from dif_neg h]
    refine le_trans (le_of_eq ?_) (rowMax_nonneg (n := 18943) (H r))
    show max (0 : EReal) (-0) = 0
    simp

theorem am_le (r : Fin 768) (l : Fin 128) : ∀ t, am H t r l ≤ rowMax (H r)
  | 0 => rowMax_nonneg (n := 18943) (H r)
  | t + 1 => max_le (max_le (max_le (max_le (am_le r l t) (mag_le H r _)) (mag_le H r _)) (mag_le H r _)) (mag_le H r _)

theorem le_am (r : Fin 768) (t : ℕ) (c : Fin 4) (l : Fin 128) :
    mag (ext H r (512 * t + (128 * c.val + l.val))) ≤ am H (t + 1) r l := by
  match c with
  | ⟨0, _⟩ => exact le_max_of_le_left (le_max_of_le_left (le_max_of_le_left (le_max_right _ _)))
  | ⟨1, _⟩ => exact le_max_of_le_left (le_max_of_le_left (le_max_right _ _))
  | ⟨2, _⟩ => exact le_max_of_le_left (le_max_right _ _)
  | ⟨3, _⟩ => exact le_max_right _ _

/-- Over the lanes, the lanes' maxima after all steps are the row's. -/
theorem am_sup (r : Fin 768) : (Finset.univ.sup fun l : Fin 128 => am H 37 r l) = rowMax (H r) := by
  refine le_antisymm (Finset.sup_le fun l _ => am_le H r l 37) (Finset.sup_le fun n _ => ?_)
  have hn := n.isLt
  have h := (le_am H r (n.val / 512) ⟨n.val % 512 / 128, by omega⟩ ⟨n.val % 128, by omega⟩).trans
    (am_mono H r ⟨n.val % 128, by omega⟩ (n.val / 512 + 1) 37 (by omega))
  have e : 512 * (n.val / 512) + (128 * (n.val % 512 / 128) + n.val % 128) = n.val := by omega
  rw [show (512 * (n.val / 512) + (128 * (⟨n.val % 512 / 128, by omega⟩ : Fin 4).val + (⟨n.val % 128, by omega⟩ : Fin 128).val))
    = n.val from e, ext_lt H r n.val hn] at h
  exact h.trans (Finset.le_sup (f := fun l : Fin 128 => am H 37 r l) (Finset.mem_univ _))

end Cert.Spec
-- ==== Proof.KernelIdeal.Reads.lean ====
/- What a buffer holds after the lists of stores of Steps, element by element, from what the stored vectors were computed
   from. -/
module

public import proofs.«01_k».proof.Proof.KernelIdeal.Round
public import proofs.«01_k».proof.Proof.RowMax
public import Idealize.ShloMosaic.Lib.WritesUnit
public import Idealize.ShloMosaic.Lib.WholeRead
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Body Cert.Spec

/-! ## Tiles -/

/-- An index at position `x` of tile `i`, one of the first `j`, outside every other tile, reads tile `i`'s payload at `x`. -/
theorem read_tiles {sig : RefSig} {κ : Kind} {sp : Space} {s : Shape} {e : EltTy} {Val : EltTy → Type} {NT : ℕ}
    (v : View sig κ sp s e) (f : v.ty.Contents Val) (tsz : Fin s.rank → ℕ) (off : Fin NT → Fin s.rank → ℕ)
    (inb : ∀ i a, off i a + tsz a ≤ s.size a) (P : Fin NT → (⟨s.rank, tsz⟩ : Shape).Idx → Val e) (y : s.Idx) (i : Fin NT)
    (x : (⟨s.rank, tsz⟩ : Shape).Idx) (hx : ∀ a, (y a).val = off i a + (x a).val)
    (hdis : ∀ i' : Fin NT, i' ≠ i → ∃ ax, (y ax).val < off i' ax ∨ off i' ax + tsz ax ≤ (y ax).val) :
    ∀ (j : ℕ) (hj : j ≤ NT), i.val < j → v.read Val (v.writes Val f (View.tilePieces tsz off inb P j hj)) y = P i x
  | 0, _, h => absurd h (Nat.not_lt_zero _)
  | j + 1, hj, h => by
    rw [View.tilePieces_succ]
    by_cases hn : (⟨j, hj⟩ : Fin NT) = i
    · subst hn
      exact View.read_writes_cons_unit_of_mem v f (inb ⟨j, hj⟩) (P ⟨j, hj⟩) _ y x rfl hx
    · obtain ⟨ax, hax⟩ := hdis ⟨j, hj⟩ hn
      rw [View.read_writes_cons_unit_of_not_mem v f (inb ⟨j, hj⟩) (P ⟨j, hj⟩) _ y rfl ax hax]
      exact read_tiles v f tsz off inb P y i x hx hdis j (Nat.le_of_succ_le hj) (by
        have : i.val ≠ j := fun h => hn (Fin.ext h.symm)
        omega)

variable {sig : RefSig} {κ : Kind} {sp : Space}

/-- The three row blocks, read back. -/
theorem read_rows {n : ℕ} {e : EltTy} (v : View sig κ sp ⟨2, ![768, n]⟩ e) (f : v.ty.Contents (Elt Ideal))
    (inb : ∀ (q : Fin 3) (a : Fin 2), offR q a + (⟨2, ![256, n]⟩ : Shape).size a ≤ (⟨2, ![768, n]⟩ : Shape).size a)
    (P : Fin 3 → (⟨2, ![256, n]⟩ : Shape).Idx → Elt Ideal e) (r : Fin 768) (k : Fin n) :
    v.read (Elt Ideal) (v.writes (Elt Ideal) f (View.tilePieces (s := ⟨2, ![768, n]⟩) (NT := 3) (⟨2, ![256, n]⟩ : Shape).size offR inb P 3 le_rfl)) (ix2 r k)
      = P ⟨r.val / 256, by omega⟩ (ix2 (⟨r.val % 256, by omega⟩ : Fin 256) k) := by
  have hr := r.isLt
  refine read_tiles v f _ offR inb P (ix2 r k) ⟨r.val / 256, by omega⟩ (ix2 (⟨r.val % 256, by omega⟩ : Fin 256) k) ?_ ?_ 3 le_rfl
    (show r.val / 256 < 3 by omega)
  · intro a
    match a with
    | ⟨0, _⟩ => show r.val = 256 * (r.val / 256) + r.val % 256; omega
    | ⟨1, _⟩ => show k.val = 0 + k.val; omega
  · intro i hi
    have hi' : i.val ≠ r.val / 256 := fun h => hi (Fin.ext h)
    refine ⟨(0 : Fin 2), ?_⟩
    show r.val < 256 * i.val ∨ 256 * i.val + 256 ≤ r.val
    omega

/-- The row of a block. -/
abbrev rowIn (q : Fin 3) (r : Fin 256) : Fin 768 := ⟨256 * q.val + r.val, by omega⟩

theorem rowIn_div (r : Fin 768) (h1 : r.val / 256 < 3) (h2 : r.val % 256 < 256) : rowIn ⟨r.val / 256, h1⟩ ⟨r.val % 256, h2⟩ = r :=
  Fin.ext (show 256 * (r.val / 256) + r.val % 256 = r.val by omega)

/-! ## The activations -/

section X

variable (X : Fin 768 → Fin 3584 → EReal) (x : Fin 3 → FVec Ideal S256x3584 .bf16)
  (hx : ∀ q r k, x q (ix2 r k) = X (rowIn q r) k)
include hx

theorem xc_read (v : View sig κ sp S768x3584 .fp8e4m3) (f : v.ty.Contents (Elt Ideal)) (r : Fin 768) (k : Fin 3584) :
    v.read (Elt Ideal) (v.writes (Elt Ideal) f (xcPieces (F := Ideal) x)) (ix2 r k) = rowCode (X r) k := by
  refine (read_rows v f inbX _ r k).trans ((xCodes_at _ _ _).trans ?_)
  simp only [hx, rowIn_div]

theorem xs_read (v : View sig κ sp S768x1 .f32) (f : v.ty.Contents (Elt Ideal)) (r : Fin 768) (k : Fin 1) :
    v.read (Elt Ideal) (v.writes (Elt Ideal) f (xsPieces (F := Ideal) x)) (ix2 r k) = rowScale (X r) := by
  refine (read_rows v f inb1 _ r k).trans ((xScale_at _ _ _).trans ?_)
  simp only [hx, rowIn_div]

theorem xsb_read (v : View sig κ sp S768x128 .f32) (f : v.ty.Contents (Elt Ideal)) (r : Fin 768) (l : Fin 128) :
    v.read (Elt Ideal) (v.writes (Elt Ideal) f (xsbPieces (F := Ideal) x)) (ix2 r l) = rowScale (X r) := by
  refine (read_rows v f inbL _ r l).trans ((pay59_at _ _ _).trans ((xScale_at _ _ _).trans ?_))
  simp only [hx, rowIn_div]

end X

/-! ## A column step -/

theorem lt_g {t n : ℕ} (ht : t < 37) (hn : n < 512) : 512 * t + n < 37888 := by omega
theorem lt_u {t n : ℕ} (ht : t < 37) (hn : n < 512) : 18944 + (512 * t + n) < 37888 := by omega
theorem lt_c (c : Fin 4) (l : Fin 128) : 128 * c.val + l.val < 512 := by omega

section H

variable (X : Fin 768 → Fin 3584 → EReal) (W : Fin 3584 → Fin 37888 → EReal) (S : Fin 37888 → EReal) (t : ℕ) (ht : t < 37)
  (xq : Fin 3 → FVec Ideal S256x3584 .fp8e4m3) (wg wu : FVec Ideal S3584x512 .fp8e4m3) (xs : Fin 3 → FVec Ideal S256x128 .f32)
  (sg su : Fin 4 → FVec Ideal S1x128 .f32)
  (hxq : ∀ q r k, xq q (ix2 r k) = rowCode (X (rowIn q r)) k)
  (hwg : ∀ (k : Fin 3584) (j : Fin 512), wg (ix2 k j) = W k ⟨512 * t + j.val, lt_g ht j.isLt⟩)
  (hwu : ∀ (k : Fin 3584) (j : Fin 512), wu (ix2 k j) = W k ⟨18944 + (512 * t + j.val), lt_u ht j.isLt⟩)
  (hxs : ∀ q r l, xs q (ix2 r l) = rowScale (X (rowIn q r)))
  (hsg : ∀ (c : Fin 4) (l : Fin 128), sg c (ix2 0 l) = S ⟨512 * t + (128 * c.val + l.val), lt_g ht (lt_c c l)⟩)
  (hsu : ∀ (c : Fin 4) (l : Fin 128), su c (ix2 0 l) = S ⟨18944 + (512 * t + (128 * c.val + l.val)), lt_u ht (lt_c c l)⟩)
include hxq hwg hwu hxs hsg hsu

theorem prod_h (q : Fin 3) (c : Fin 4) (r : Fin 256) (l : Fin 128) :
    prod (F := Ideal) (xq q) wg wu (xs q) sg su c (ix2 r l) = h X W S (rowIn q r) ⟨512 * t + (128 * c.val + l.val), by omega⟩ := by
  rw [prod_at]
  simp only [hxq, hwg, hwu, hxs, hsg, hsu]
  rfl

theorem h_read (i : grid0.Coords) (hc1 : k0_cond2 i = 1#1)
    (hi : (Scalar.indexCast (BitVec.ofNat 32 (i 0).val) : Index).toNat = t)
    (v : View sig κ sp S37x768x512 .bf16) (f : v.ty.Contents (Elt Ideal)) (r : Fin 768) (j : Fin 512) :
    v.read (Elt Ideal) (v.writes (Elt Ideal) f (hPieces (F := Ideal) i hc1 xq wg wu xs sg su)) (ix3 (⟨t, ht⟩ : Fin 37) r j)
      = h X W S r ⟨512 * t + j.val, by omega⟩ := by
  have hr := r.isLt
  have hj := j.isLt
  refine (read_tiles v f S1x256x128.size (offH i) (inbH i hc1) _ (ix3 (⟨t, ht⟩ : Fin 37) r j)
    ⟨4 * (r.val / 256) + j.val / 128, by omega⟩
    (ix3 (0 : Fin 1) (⟨r.val % 256, by omega⟩ : Fin 256) (⟨j.val % 128, by omega⟩ : Fin 128)) ?_ ?_ 12 le_rfl
    (show 4 * (r.val / 256) + j.val / 128 < 12 by omega)).trans ?_
  · intro a
    match a with
    | ⟨0, _⟩ => show t = (Scalar.indexCast (BitVec.ofNat 32 (i 0).val) : Index).toNat + 0; omega
    | ⟨1, _⟩ => show r.val = 256 * ((4 * (r.val / 256) + j.val / 128) / 4) + r.val % 256; omega
    | ⟨2, _⟩ => show j.val = 128 * ((4 * (r.val / 256) + j.val / 128) % 4) + j.val % 128; omega
  · intro n hn
    have hn' : n.val ≠ 4 * (r.val / 256) + j.val / 128 := fun h => hn (Fin.ext h)
    by_cases h1 : n.val / 4 = r.val / 256
    · refine ⟨(2 : Fin 3), ?_⟩
      show j.val < 128 * (n.val % 4) ∨ 128 * (n.val % 4) + 128 ≤ j.val
      omega
    · refine ⟨(1 : Fin 3), ?_⟩
      show r.val < 256 * (n.val / 4) ∨ 256 * (n.val / 4) + 256 ≤ r.val
      omega
  · refine (pay177_at _ _ _ _).trans ((prod_h X W S t ht xq wg wu xs sg su hxq hwg hwu hxs hsg hsu _ _ _ _).trans ?_)
    congr 1
    · exact Fin.ext (show 256 * ((4 * (r.val / 256) + j.val / 128) / 4) + r.val % 256 = r.val by omega)
    · exact Fin.ext (show 512 * t + (128 * ((4 * (r.val / 256) + j.val / 128) % 4) + j.val % 128) = 512 * t + j.val by omega)

theorem maxStep_h (a : FVec Ideal S256x128 .f32) (q : Fin 3) (r : Fin 256) (l : Fin 128)
    (ha : a (ix2 r l) = am (h X W S) t (rowIn q r) l) :
    k0_pay194 (maxStep (prod (F := Ideal) (xq q) wg wu (xs q) sg su) a) (ix2 r l) = am (h X W S) (t + 1) (rowIn q r) l := by
  have hp := fun c => prod_h X W S t ht xq wg wu xs sg su hxq hwg hwu hxs hsg hsu q c r l
  have hl := l.isLt
  rw [maxStep_at, ha, hp 0, hp 1, hp 2, hp 3, am_succ]
  rw [ext_lt _ _ _ (by omega), ext_lt _ _ _ (by omega), ext_lt _ _ _ (by omega), ext_lt _ _ _ (by omega)]
  rfl

theorem amax_read (a : Fin 3 → FVec Ideal S256x128 .f32) (ha : ∀ q r l, a q (ix2 r l) = am (h X W S) t (rowIn q r) l)
    (v : View sig κ sp S768x128 .f32) (f : v.ty.Contents (Elt Ideal)) (r : Fin 768) (l : Fin 128) :
    v.read (Elt Ideal) (v.writes (Elt Ideal) f (amaxPieces (F := Ideal) xq wg wu xs sg su a)) (ix2 r l) = am (h X W S) (t + 1) r l := by
  refine (read_rows v f inbL _ r l).trans
    ((maxStep_h X W S t ht xq wg wu xs sg su hxq hwg hwu hxs hsg hsu _ _ _ _ (ha _ _ _)).trans ?_)
  rw [rowIn_div]

end H

/-- A step's products leave the other steps' as they were. -/
theorem h_miss (i : grid0.Coords) (hc1 : k0_cond2 i = 1#1) (t : ℕ)
    (hi : (Scalar.indexCast (BitVec.ofNat 32 (i 0).val) : Index).toNat = t)
    (xq : Fin 3 → FVec Ideal S256x3584 .fp8e4m3) (wg wu : FVec Ideal S3584x512 .fp8e4m3) (xs : Fin 3 → FVec Ideal S256x128 .f32)
    (sg su : Fin 4 → FVec Ideal S1x128 .f32) (v : View sig κ sp S37x768x512 .bf16) (f : v.ty.Contents (Elt Ideal))
    (k : Fin 37) (hk : k.val ≠ t) (r : Fin 768) (j : Fin 512) :
    v.read (Elt Ideal) (v.writes (Elt Ideal) f (hPieces (F := Ideal) i hc1 xq wg wu xs sg su)) (ix3 k r j)
      = v.read (Elt Ideal) f (ix3 k r j) := by
  refine View.read_tilePieces_miss v f S1x256x128.size (offH i) (inbH i hc1) _ 12 le_rfl (ix3 k r j) (0 : Fin 3) fun n _ => ?_
  show k.val < (Scalar.indexCast (BitVec.ofNat 32 (i 0).val) : Index).toNat ∨ (Scalar.indexCast (BitVec.ofNat 32 (i 0).val) : Index).toNat + 1 ≤ k.val
  omega

/-! ## The first step's maxima -/

section First

variable (v v' : View sig κ sp S768x128 .f32) (f : v'.ty.Contents (Elt Ideal))
  (P : Fin 3 → FVec Ideal S256x128 .f32 → FVec Ideal S256x128 .f32)

theorem first_low : ∀ (n : ℕ) (hn : n ≤ 3) (r : Fin 768) (l : Fin 128), 256 * n ≤ r.val →
    v'.read (Elt Ideal) (v'.writes (Elt Ideal) f (amaxFirst (F := Ideal) v P n hn)) (ix2 r l) = 0
  | 0, _, r, l, _ => by
    unfold amaxFirst
    refine (View.read_writes_cons_unit_of_mem v' f (s := S768x128) inb_S768x128_S768x128_0_0 (k0_pay2 (F := Ideal)) [] (ix2 r l) (ix2 r l) rfl
      fun a => ?_).trans (pay2_at r l)
    match a with
    | ⟨0, _⟩ => exact (Nat.zero_add _).symm
    | ⟨1, _⟩ => exact (Nat.zero_add _).symm
  | n + 1, hn, r, l, h => by
    unfold amaxFirst
    rw [View.read_writes_cons_unit_of_not_mem v' f (s := S768x128) (inbL ⟨n, hn⟩) _ _ (ix2 r l) rfl (0 : Fin 2)
      (.inr (show 256 * n + 256 ≤ r.val by omega))]
    exact first_low n (Nat.le_of_succ_le hn) r l (by omega)

end First

theorem first_read (v v' : View sig κ sp S768x128 .f32) (f : v'.ty.Contents (Elt Ideal))
    (P : Fin 3 → FVec Ideal S256x128 .f32 → FVec Ideal S256x128 .f32) (r : Fin 768) (l : Fin 128) (q : Fin 3) (r' : Fin 256)
    (hr : rowIn q r' = r) : ∀ (n : ℕ) (hn : n ≤ 3), q.val < n → ∃ z : FVec Ideal S256x128 .f32, (∀ r l, z (ix2 r l) = 0) ∧
      v'.read (Elt Ideal) (v'.writes (Elt Ideal) f (amaxFirst (F := Ideal) v P n hn)) (ix2 r l) = k0_pay194 (P q z) (ix2 r' l)
  | 0, _, h => absurd h (Nat.not_lt_zero _)
  | n + 1, hn, h => by
    have hv : r.val = 256 * q.val + r'.val := (congrArg Fin.val hr).symm
    unfold amaxFirst
    by_cases hq : q = ⟨n, hn⟩
    · subst hq
      refine ⟨_, fun r0 l0 => ?_, View.read_writes_cons_unit_of_mem v' f (s := S768x128) (inbL ⟨n, hn⟩) _ _ (ix2 r l) (ix2 r' l) rfl fun a => ?_⟩
      · refine Eq.trans ?_ (first_low v v v.junk P n (Nat.le_of_succ_le hn) (rowIn ⟨n, hn⟩ r0) l0 (show 256 * n ≤ 256 * n + r0.val by omega))
        refine congrArg (v.read (Elt Ideal) (v.writes (Elt Ideal) v.junk (amaxFirst (F := Ideal) v P n (Nat.le_of_succ_le hn)))) (funext fun a => Fin.ext ?_)
        match a with
        | ⟨0, _⟩ => show 256 * n + 1 * r0.val = 256 * n + r0.val; omega
        | ⟨1, _⟩ => show 0 + 1 * l0.val = l0.val; omega
      · match a with
        | ⟨0, _⟩ => exact hv
        | ⟨1, _⟩ => exact (Nat.zero_add _).symm
    · have hq' : q.val ≠ n := fun h => hq (Fin.ext h)
      obtain ⟨z, hz, e⟩ := first_read v v' f P r l q r' hr n (Nat.le_of_succ_le hn) (by omega)
      refine ⟨z, hz, Eq.trans ?_ e⟩
      exact View.read_writes_cons_unit_of_not_mem v' f (s := S768x128) (inbL ⟨n, hn⟩) _ _ (ix2 r l) rfl (0 : Fin 2)
        (.inl (show r.val < 256 * n by omega))

/-! ## The codes of 96 rows -/

theorem hc_read (H : Fin 768 → Fin 18944 → EReal) (b : ℕ) (hb : b + 96 ≤ 768) (inv : FVec Ideal S96x128 .bf16)
    (hT : Fin 148 → FVec Ideal S1x96x128 .bf16)
    (hinv : ∀ (r : Fin 96) (l : Fin 128), inv (ix2 r l) = Scale.scale true (rowMax (H ⟨b + r.val, by omega⟩)))
    (hh : ∀ (n : Fin 148) (r : Fin 96) (l : Fin 128), hT n (ix3 0 r l) = H ⟨b + r.val, by omega⟩ ⟨128 * n.val + l.val, by omega⟩)
    (v : View sig κ sp S96x18944 .fp8e4m3) (f : v.ty.Contents (Elt Ideal)) (r : Fin 96) (n : Fin 18944) :
    v.read (Elt Ideal) (v.writes (Elt Ideal) f (hcPieces (F := Ideal) inv hT)) (ix2 r n) = rowCode (H ⟨b + r.val, by omega⟩) n := by
  have hn := n.isLt
  refine (View.read_tilePieces v f S96x128.size offO inbO _ 148 le_rfl (ix2 r n) ⟨n.val / 128, by omega⟩ (by show n.val / 128 < 148; omega)
    (ix2 r (⟨n.val % 128, by omega⟩ : Fin 128)) ?_ (1 : Fin 2) ?_).trans ?_
  · intro a
    match a with
    | ⟨0, _⟩ => show r.val = 0 + r.val; omega
    | ⟨1, _⟩ => show n.val = 128 * (n.val / 128) + n.val % 128; omega
  · intro i hi
    have hi' : i.val ≠ n.val / 128 := fun h => hi (Fin.ext h)
    show n.val < 128 * i.val ∨ 128 * i.val + 128 ≤ n.val
    omega
  · refine (pay320_at _ _ _ _).trans ?_
    rw [hinv, hh]
    unfold rowCode
    congr 3
    exact Fin.ext (show 128 * (n.val / 128) + n.val % 128 = n.val by omega)

end Cert.KernelIdeal.Value
-- ==== Proof.KernelIdeal.PartsA.lean ====
/- What the first point stores, as the lists of Steps. -/
module

public import proofs.«01_k».proof.Proof.KernelIdeal.RunA
public import proofs.«01_k».proof.Proof.KernelIdeal.Steps

@[expose] public section

set_option maxRecDepth 16384

noncomputable section

namespace Cert.KernelIdeal.Body

open Idealize.ShloMosaic Idealize.ShloMosaic.TcCoe Idealize.ShloMosaic.Tactic
open Idealize.SL Idealize.SL.RA
open Cert.KernelIdeal.Gen

variable {F : FTy → Type} [FloatOps F]

/-- What the first point stores of the activations' codes. -/
theorem runA_8 (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : cond0_0 i) (hc1 : cond0_1 i) (hc2 : ¬cond0_2 i) (hc3 : ¬cond0_3 i) (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    (runA c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).1 = xcPieces (fun q => View.readAt (Elt F) arg1.view (Rect.unit (s := S768x3584) (offR q) S256x3584.size (inbX q)).toLoadRect (harg1.unread y1)) := by sl_kernel_rfl
/-- What it stores of their scales. -/
theorem runA_9 (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : cond0_0 i) (hc1 : cond0_1 i) (hc2 : ¬cond0_2 i) (hc3 : ¬cond0_3 i) (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    (runA c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).2.1 = xsPieces (fun q => View.readAt (Elt F) arg1.view (Rect.unit (s := S768x3584) (offR q) S256x3584.size (inbX q)).toLoadRect (harg1.unread y1)) := by sl_kernel_rfl
/-- What it stores of their scales along the lanes. -/
theorem runA_12 (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : cond0_0 i) (hc1 : cond0_1 i) (hc2 : ¬cond0_2 i) (hc3 : ¬cond0_3 i) (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    (runA c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).2.2.2.2.1 = xsbPieces (fun q => View.readAt (Elt F) arg1.view (Rect.unit (s := S768x3584) (offR q) S256x3584.size (inbX q)).toLoadRect (harg1.unread y1)) := by sl_kernel_rfl
/-- The step's products. -/
theorem runA_10 (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : cond0_0 i) (hc1 : cond0_1 i) (hc2 : ¬cond0_2 i) (hc3 : ¬cond0_3 i) (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    (runA c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).2.2.1 = hPieces i hc1 (fun q => arg8.view.readCov (xcPieces (fun q => View.readAt (Elt F) arg1.view (Rect.unit (s := S768x3584) (offR q) S256x3584.size (inbX q)).toLoadRect (harg1.unread y1))) (Rect.unit (s := S768x3584) (offR q) S256x3584.size (inbX q)).toLoadRect)
      (View.readAt (Elt F) arg2.view (Rect.unit (s := S3584x512) ![0, 0] S3584x512.size inb_S3584x512_S3584x512_0_0).toLoadRect (harg2.unread y2)) (View.readAt (Elt F) arg3.view (Rect.unit (s := S3584x512) ![0, 0] S3584x512.size inb_S3584x512_S3584x512_0_0).toLoadRect (harg3.unread y3))
      (fun q => arg12.view.readCov (xsbPieces (fun q => View.readAt (Elt F) arg1.view (Rect.unit (s := S768x3584) (offR q) S256x3584.size (inbX q)).toLoadRect (harg1.unread y1))) (Rect.unit (s := S768x128) (offR q) S256x128.size (inbL q)).toLoadRect)
      (fun k => View.readAt (Elt F) arg4.view (Rect.unit (s := S1x512) (offC k.val) S1x128.size (inbS k)).toLoadRect (harg4.unread y4)) (fun k => View.readAt (Elt F) arg5.view (Rect.unit (s := S1x512) (offC k.val) S1x128.size (inbS k)).toLoadRect (harg5.unread y5)) := by sl_kernel_rfl

/-- The step's running maxima. -/
theorem runA_11 (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : cond0_0 i) (hc1 : cond0_1 i) (hc2 : ¬cond0_2 i) (hc3 : ¬cond0_3 i) (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    (runA c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).2.2.2.1 = amaxFirst arg11.view (fun q => maxStep (prod ((fun q => arg8.view.readCov (xcPieces (fun q => View.readAt (Elt F) arg1.view (Rect.unit (s := S768x3584) (offR q) S256x3584.size (inbX q)).toLoadRect (harg1.unread y1))) (Rect.unit (s := S768x3584) (offR q) S256x3584.size (inbX q)).toLoadRect) q)
      (View.readAt (Elt F) arg2.view (Rect.unit (s := S3584x512) ![0, 0] S3584x512.size inb_S3584x512_S3584x512_0_0).toLoadRect (harg2.unread y2)) (View.readAt (Elt F) arg3.view (Rect.unit (s := S3584x512) ![0, 0] S3584x512.size inb_S3584x512_S3584x512_0_0).toLoadRect (harg3.unread y3))
      ((fun q => arg12.view.readCov (xsbPieces (fun q => View.readAt (Elt F) arg1.view (Rect.unit (s := S768x3584) (offR q) S256x3584.size (inbX q)).toLoadRect (harg1.unread y1))) (Rect.unit (s := S768x128) (offR q) S256x128.size (inbL q)).toLoadRect) q)
      (fun k => View.readAt (Elt F) arg4.view (Rect.unit (s := S1x512) (offC k.val) S1x128.size (inbS k)).toLoadRect (harg4.unread y4)) (fun k => View.readAt (Elt F) arg5.view (Rect.unit (s := S1x512) (offC k.val) S1x128.size (inbS k)).toLoadRect (harg5.unread y5)))) 3 le_rfl := by sl_kernel_rfl

end Cert.KernelIdeal.Body
-- ==== Proof.KernelIdeal.PartsB.lean ====
/- What a later column step stores, as the lists of Steps. -/
module

public import proofs.«01_k».proof.Proof.KernelIdeal.RunB
public import proofs.«01_k».proof.Proof.KernelIdeal.Steps

@[expose] public section

set_option maxRecDepth 16384

noncomputable section

namespace Cert.KernelIdeal.Body

open Idealize.ShloMosaic Idealize.ShloMosaic.TcCoe Idealize.ShloMosaic.Tactic
open Idealize.SL Idealize.SL.RA
open Cert.KernelIdeal.Gen

variable {F : FTy → Type} [FloatOps F]

/-- The step's products. -/
theorem runB_10 (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : ¬cond0_0 i) (hc1 : cond0_1 i) (hc2 : ¬cond0_2 i) (hc3 : ¬cond0_3 i) (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    (runB c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).1 = hPieces i hc1 (fun q => View.readAt (Elt F) arg8.view (Rect.unit (s := S768x3584) (offR q) S256x3584.size (inbX q)).toLoadRect (harg8.unread y8))
      (View.readAt (Elt F) arg2.view (Rect.unit (s := S3584x512) ![0, 0] S3584x512.size inb_S3584x512_S3584x512_0_0).toLoadRect (harg2.unread y2)) (View.readAt (Elt F) arg3.view (Rect.unit (s := S3584x512) ![0, 0] S3584x512.size inb_S3584x512_S3584x512_0_0).toLoadRect (harg3.unread y3))
      (fun q => View.readAt (Elt F) arg12.view (Rect.unit (s := S768x128) (offR q) S256x128.size (inbL q)).toLoadRect (harg12.unread y12))
      (fun k => View.readAt (Elt F) arg4.view (Rect.unit (s := S1x512) (offC k.val) S1x128.size (inbS k)).toLoadRect (harg4.unread y4)) (fun k => View.readAt (Elt F) arg5.view (Rect.unit (s := S1x512) (offC k.val) S1x128.size (inbS k)).toLoadRect (harg5.unread y5)) := by sl_kernel_rfl
/-- The step's running maxima. -/
theorem runB_11 (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : ¬cond0_0 i) (hc1 : cond0_1 i) (hc2 : ¬cond0_2 i) (hc3 : ¬cond0_3 i) (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    (runB c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).2.1 = amaxPieces (fun q => View.readAt (Elt F) arg8.view (Rect.unit (s := S768x3584) (offR q) S256x3584.size (inbX q)).toLoadRect (harg8.unread y8))
      (View.readAt (Elt F) arg2.view (Rect.unit (s := S3584x512) ![0, 0] S3584x512.size inb_S3584x512_S3584x512_0_0).toLoadRect (harg2.unread y2)) (View.readAt (Elt F) arg3.view (Rect.unit (s := S3584x512) ![0, 0] S3584x512.size inb_S3584x512_S3584x512_0_0).toLoadRect (harg3.unread y3))
      (fun q => View.readAt (Elt F) arg12.view (Rect.unit (s := S768x128) (offR q) S256x128.size (inbL q)).toLoadRect (harg12.unread y12))
      (fun k => View.readAt (Elt F) arg4.view (Rect.unit (s := S1x512) (offC k.val) S1x128.size (inbS k)).toLoadRect (harg4.unread y4)) (fun k => View.readAt (Elt F) arg5.view (Rect.unit (s := S1x512) (offC k.val) S1x128.size (inbS k)).toLoadRect (harg5.unread y5)) (fun q => View.readAt (Elt F) arg11.view (Rect.unit (s := S768x128) (offR q) S256x128.size (inbL q)).toLoadRect (harg11.unread y11)) := by sl_kernel_rfl

end Cert.KernelIdeal.Body
-- ==== Proof.KernelIdeal.PartsC.lean ====
/- What point 37 stores, as the lists of Steps. -/
module

public import proofs.«01_k».proof.Proof.KernelIdeal.RunC
public import proofs.«01_k».proof.Proof.KernelIdeal.Steps

@[expose] public section

set_option maxRecDepth 16384

noncomputable section

namespace Cert.KernelIdeal.Body

open Idealize.ShloMosaic Idealize.ShloMosaic.TcCoe Idealize.ShloMosaic.Tactic
open Idealize.SL Idealize.SL.RA
open Cert.KernelIdeal.Gen

variable {F : FTy → Type} [FloatOps F]

/-- What point 37 stores of the products' scales. -/
theorem runC_6 (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : ¬cond0_0 i) (hc1 : ¬cond0_1 i) (hc2 : cond0_2 i) (hc3 : cond0_3 i) (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    (runC c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).1 = [⟨Rect.unit ![0, 0] S768x1.size inb_S768x1_S768x1_0_0, hScale false (View.readAt (Elt F) arg11.view (Rect.unit (s := S768x128) ![0, 0] S768x128.size inb_S768x128_S768x128_0_0).toLoadRect (harg11.unread y11))⟩] := by sl_kernel_rfl
/-- What it stores of their inverses. -/
theorem runC_13 (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : ¬cond0_0 i) (hc1 : ¬cond0_1 i) (hc2 : cond0_2 i) (hc3 : cond0_3 i) (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    (runC c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).2.2.1 = [⟨Rect.unit ![0, 0] S768x128.size inb_S768x128_S768x128_0_0, k0_pay5 (hScale true (View.readAt (Elt F) arg11.view (Rect.unit (s := S768x128) ![0, 0] S768x128.size inb_S768x128_S768x128_0_0).toLoadRect (harg11.unread y11)))⟩] := by sl_kernel_rfl
/-- The codes of its 96 rows. -/
theorem runC_7 (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : ¬cond0_0 i) (hc1 : ¬cond0_1 i) (hc2 : cond0_2 i) (hc3 : cond0_3 i) (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    (runC c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).2.1 = hcPieces (View.readAt (Elt F) arg13.view (Rect.unit (s := S768x128) (k0_off13 i) S96x128.size (k0_off13_inb i hc3)).toLoadRect
      (arg13.view.writes (Elt F) (harg13.unread y13) [⟨Rect.unit ![0, 0] S768x128.size inb_S768x128_S768x128_0_0, k0_pay5 (hScale true (View.readAt (Elt F) arg11.view (Rect.unit (s := S768x128) ![0, 0] S768x128.size inb_S768x128_S768x128_0_0).toLoadRect (harg11.unread y11)))⟩])) (fun n => View.readAt (Elt F) arg10.view (Rect.unit (s := S37x768x512) (offT i n) S1x96x128.size (inbT i hc3 n)).toLoadRect (harg10.unread y10)) := by sl_kernel_rfl

end Cert.KernelIdeal.Body
-- ==== Proof.KernelIdeal.PartsD.lean ====
/- What a later point of the quantiser stores, as the lists of Steps. -/
module

public import proofs.«01_k».proof.Proof.KernelIdeal.RunD
public import proofs.«01_k».proof.Proof.KernelIdeal.Steps

@[expose] public section

set_option maxRecDepth 16384

noncomputable section

namespace Cert.KernelIdeal.Body

open Idealize.ShloMosaic Idealize.ShloMosaic.TcCoe Idealize.ShloMosaic.Tactic
open Idealize.SL Idealize.SL.RA
open Cert.KernelIdeal.Gen

variable {F : FTy → Type} [FloatOps F]

/-- The codes of the point's 96 rows. -/
theorem runD_7 (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole) (hc0 : ¬cond0_0 i) (hc1 : ¬cond0_1 i) (hc2 : ¬cond0_2 i) (hc3 : cond0_3 i) (y1 : Vec F S768x3584 .bf16) (y2 : Vec F S3584x512 .fp8e4m3) (y3 : Vec F S3584x512 .fp8e4m3) (y4 : Vec F S1x512 .f32) (y5 : Vec F S1x512 .f32) (y6 : Vec F S768x1 .f32) (y7 : Vec F S96x18944 .fp8e4m3) (y8 : Vec F S768x3584 .fp8e4m3) (y9 : Vec F S768x1 .f32) (y10 : Vec F S37x768x512 .bf16) (y11 : Vec F S768x128 .f32) (y12 : Vec F S768x128 .f32) (y13 : Vec F S768x128 .bf16) :
    (runD c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).1 = hcPieces (View.readAt (Elt F) arg13.view (Rect.unit (s := S768x128) (k0_off13 i) S96x128.size (k0_off13_inb i hc3)).toLoadRect
      (harg13.unread y13)) (fun n => View.readAt (Elt F) arg10.view (Rect.unit (s := S37x768x512) (offT i n) S1x96x128.size (inbT i hc3 n)).toLoadRect (harg10.unread y10)) := by sl_kernel_rfl

end Cert.KernelIdeal.Body
-- ==== Proof.KernelIdeal.Values.lean ====
/- What each run of the body leaves in the buffers it stores into, element by element, from what it finds in the ones it
   loads. -/
module

public import proofs.«01_k».proof.Proof.KernelIdeal.Reads
public import proofs.«01_k».proof.Proof.KernelIdeal.PartsA
public import proofs.«01_k».proof.Proof.KernelIdeal.PartsB
public import proofs.«01_k».proof.Proof.KernelIdeal.PartsC
public import proofs.«01_k».proof.Proof.KernelIdeal.PartsD

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Body Cert.Spec

/-! ## Loads -/

theorem idx2 {m n m' n' : ℕ} (off : Fin 2 → ℕ) (inb : ∀ a : Fin 2, off a + (⟨2, ![m', n']⟩ : Shape).size a ≤ (⟨2, ![m, n]⟩ : Shape).size a)
    (x : Fin m') (z : Fin n') (r : Fin m) (k : Fin n) (hr : r.val = off 0 + x.val) (hk : k.val = off 1 + z.val) :
    (Rect.unit (s := ⟨2, ![m, n]⟩) off (⟨2, ![m', n']⟩ : Shape).size inb).toLoadRect.idx (ix2 x z) = ix2 r k :=
  funext fun a => Fin.ext (match a with
    | ⟨0, _⟩ => show off 0 + 1 * x.val = r.val by omega
    | ⟨1, _⟩ => show off 1 + 1 * z.val = k.val by omega)

theorem idx3 {l m n l' m' n' : ℕ} (off : Fin 3 → ℕ)
    (inb : ∀ a : Fin 3, off a + (⟨3, ![l', m', n']⟩ : Shape).size a ≤ (⟨3, ![l, m, n]⟩ : Shape).size a)
    (w : Fin l') (x : Fin m') (z : Fin n') (q : Fin l) (r : Fin m) (k : Fin n) (hq : q.val = off 0 + w.val)
    (hr : r.val = off 1 + x.val) (hk : k.val = off 2 + z.val) :
    (Rect.unit (s := ⟨3, ![l, m, n]⟩) off (⟨3, ![l', m', n']⟩ : Shape).size inb).toLoadRect.idx (ix3 w x z) = ix3 q r k :=
  funext fun a => Fin.ext (match a with
    | ⟨0, _⟩ => show off 0 + 1 * w.val = q.val by omega
    | ⟨1, _⟩ => show off 1 + 1 * x.val = r.val by omega
    | ⟨2, _⟩ => show off 2 + 1 * z.val = k.val by omega)

section Load

variable {sig : RefSig} {κ : Kind} {sp : Space} {e : EltTy}

theorem ld2 {m n m' n' : ℕ} (a : Memref sig κ sp ⟨2, ![m, n]⟩ e) (ha : a.IsWhole) (y : (⟨2, ![m, n]⟩ : Shape).Idx → Elt Ideal e)
    (off : Fin 2 → ℕ) (inb : ∀ a : Fin 2, off a + (⟨2, ![m', n']⟩ : Shape).size a ≤ (⟨2, ![m, n]⟩ : Shape).size a)
    (x : Fin m') (z : Fin n') (r : Fin m) (k : Fin n) (hr : r.val = off 0 + x.val) (hk : k.val = off 1 + z.val) :
    View.readAt (Elt Ideal) a.view (Rect.unit (s := ⟨2, ![m, n]⟩) off (⟨2, ![m', n']⟩ : Shape).size inb).toLoadRect (ha.unread y) (ix2 x z)
      = y (ix2 r k) :=
  (Memref.IsWhole.readAt_unread ha y _ _).trans (congrArg y (idx2 off inb x z r k hr hk))

theorem ld3 {l m n l' m' n' : ℕ} (a : Memref sig κ sp ⟨3, ![l, m, n]⟩ e) (ha : a.IsWhole) (y : (⟨3, ![l, m, n]⟩ : Shape).Idx → Elt Ideal e)
    (off : Fin 3 → ℕ) (inb : ∀ a : Fin 3, off a + (⟨3, ![l', m', n']⟩ : Shape).size a ≤ (⟨3, ![l, m, n]⟩ : Shape).size a)
    (w : Fin l') (x : Fin m') (z : Fin n') (q : Fin l) (r : Fin m) (k : Fin n) (hq : q.val = off 0 + w.val)
    (hr : r.val = off 1 + x.val) (hk : k.val = off 2 + z.val) :
    View.readAt (Elt Ideal) a.view (Rect.unit (s := ⟨3, ![l, m, n]⟩) off (⟨3, ![l', m', n']⟩ : Shape).size inb).toLoadRect (ha.unread y) (ix3 w x z)
      = y (ix3 q r k) :=
  (Memref.IsWhole.readAt_unread ha y _ _).trans (congrArg y (idx3 off inb w x z q r k hq hr hk))

/-- A load reads what the buffer reads at the index the load places. -/
theorem rd2 {m n m' n' : ℕ} (v : View sig κ sp ⟨2, ![m, n]⟩ e) (f : v.ty.Contents (Elt Ideal))
    (off : Fin 2 → ℕ) (inb : ∀ a : Fin 2, off a + (⟨2, ![m', n']⟩ : Shape).size a ≤ (⟨2, ![m, n]⟩ : Shape).size a)
    (x : Fin m') (z : Fin n') (r : Fin m) (k : Fin n) (hr : r.val = off 0 + x.val) (hk : k.val = off 1 + z.val) :
    View.readAt (Elt Ideal) v (Rect.unit (s := ⟨2, ![m, n]⟩) off (⟨2, ![m', n']⟩ : Shape).size inb).toLoadRect f (ix2 x z)
      = v.read (Elt Ideal) f (ix2 r k) :=
  congrArg (v.read (Elt Ideal) f) (idx2 off inb x z r k hr hk)

/-- A buffer stored whole reads what was stored. -/
theorem read_whole2 {m n : ℕ} (v : View sig κ sp ⟨2, ![m, n]⟩ e) (f : v.ty.Contents (Elt Ideal))
    (inb : ∀ a : Fin 2, (![0, 0] : Fin 2 → ℕ) a + (⟨2, ![m, n]⟩ : Shape).size a ≤ (⟨2, ![m, n]⟩ : Shape).size a)
    (P : (⟨2, ![m, n]⟩ : Shape).Idx → Elt Ideal e) (r : Fin m) (k : Fin n) :
    v.read (Elt Ideal) (v.writes (Elt Ideal) f [⟨Rect.unit (s := ⟨2, ![m, n]⟩) ![0, 0] (⟨2, ![m, n]⟩ : Shape).size inb, P⟩]) (ix2 r k) = P (ix2 r k) :=
  View.read_writes_cons_unit_of_mem v f (s := ⟨2, ![m, n]⟩) inb P [] (ix2 r k) (ix2 r k) rfl fun a =>
    match a with
    | ⟨0, _⟩ => (Nat.zero_add _).symm
    | ⟨1, _⟩ => (Nat.zero_add _).symm

end Load

variable (X : Fin 768 → Fin 3584 → EReal) (W : Fin 3584 → Fin 37888 → EReal) (S : Fin 37888 → EReal)

/-! ## What the buffers hold -/

/-- The products' scratch holds the first `n` steps' products. -/
def HOK (n : ℕ) (f : Vec Ideal S37x768x512 .bf16) : Prop :=
  ∀ (k : Fin 37) (r : Fin 768) (j : Fin 512), k.val < n → f (ix3 k r j) = h X W S r ⟨512 * k.val + j.val, by omega⟩
/-- The lanes' maxima after `n` steps. -/
def amB (n : ℕ) : Vec Ideal S768x128 .f32 := fun j => am (h X W S) n (j 0) (j 1)
/-- The activations' scales along the lanes. -/
def xsB : Vec Ideal S768x128 .f32 := fun j => rowScale (X (j 0))
/-- The inverses of the products' scales along the lanes. -/
def invB : Vec Ideal S768x128 .bf16 := fun j => Scale.scale true (rowMax (h X W S (j 0)))
/-- The activations' codes and scales. -/
def xcB : Vec Ideal S768x3584 .fp8e4m3 := fun j => rowCode (X (j 0)) (j 1)
def xs1B : Vec Ideal S768x1 .f32 := fun j => rowScale (X (j 0))
/-- The products' scales. -/
def hsB : Vec Ideal S768x1 .f32 := fun j => rowScale (h X W S (j 0))
/-- The codes of the 96 rows of block `b`. -/
def hcB (b : ℕ) (hb : 96 * b + 96 ≤ 768) : Vec Ideal S96x18944 .fp8e4m3 :=
  fun j => rowCode (h X W S ⟨96 * b + (j 0).val, by have : (j 0).val < 96 := (j 0).isLt; omega⟩) (j 1)

section Runs

variable (c : Dev nD) (i : grid0.Coords) (arg1 : Memref sig .tc .vmem S768x3584 .bf16) (harg1 : arg1.IsWhole) (arg2 : Memref sig .tc .vmem S3584x512 .fp8e4m3) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x1 .f32) (harg6 : arg6.IsWhole) (arg7 : Memref sig .tc .vmem S96x18944 .fp8e4m3) (harg7 : arg7.IsWhole) (arg8 : Memref sig .tc .vmem S768x3584 .fp8e4m3) (harg8 : arg8.IsWhole) (arg9 : Memref sig .tc .vmem S768x1 .f32) (harg9 : arg9.IsWhole) (arg10 : Memref sig .tc .vmem S37x768x512 .bf16) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .bf16) (harg13 : arg13.IsWhole)
variable (y1 : Vec Ideal S768x3584 .bf16) (y2 : Vec Ideal S3584x512 .fp8e4m3) (y3 : Vec Ideal S3584x512 .fp8e4m3) (y4 : Vec Ideal S1x512 .f32) (y5 : Vec Ideal S1x512 .f32) (y6 : Vec Ideal S768x1 .f32) (y7 : Vec Ideal S96x18944 .fp8e4m3) (y8 : Vec Ideal S768x3584 .fp8e4m3) (y9 : Vec Ideal S768x1 .f32) (y10 : Vec Ideal S37x768x512 .bf16) (y11 : Vec Ideal S768x128 .f32) (y12 : Vec Ideal S768x128 .f32) (y13 : Vec Ideal S768x128 .bf16)

/-- The blocks a column step loads. -/
structure Blocks (t : ℕ) (y2 y3 : Vec Ideal S3584x512 .fp8e4m3) (y4 y5 : Vec Ideal S1x512 .f32) : Prop where
  lt : t < 37
  row : (Scalar.indexCast (BitVec.ofNat 32 (i 0).val) : Index).toNat = t
  wg : ∀ (k : Fin 3584) (j : Fin 512), y2 (ix2 k j) = W k ⟨512 * t + j.val, by omega⟩
  wu : ∀ (k : Fin 3584) (j : Fin 512), y3 (ix2 k j) = W k ⟨18944 + (512 * t + j.val), by omega⟩
  sg : ∀ j : Fin 512, y4 (ix2 0 j) = S ⟨512 * t + j.val, by omega⟩
  su : ∀ j : Fin 512, y5 (ix2 0 j) = S ⟨18944 + (512 * t + j.val), by omega⟩

section Loads

variable {t : ℕ} (B : Blocks W S i t y2 y3 y4 y5)
include B

theorem ld_wg (k : Fin 3584) (j : Fin 512) :
    View.readAt (Elt Ideal) arg2.view (Rect.unit (s := S3584x512) ![0, 0] S3584x512.size inb_S3584x512_S3584x512_0_0).toLoadRect (harg2.unread y2) (ix2 k j)
      = W k ⟨512 * t + j.val, by have := B.lt; omega⟩ :=
  (ld2 arg2 harg2 y2 ![0, 0] inb_S3584x512_S3584x512_0_0 k j k j (Nat.zero_add _).symm (Nat.zero_add _).symm).trans (B.wg k j)

theorem ld_wu (k : Fin 3584) (j : Fin 512) :
    View.readAt (Elt Ideal) arg3.view (Rect.unit (s := S3584x512) ![0, 0] S3584x512.size inb_S3584x512_S3584x512_0_0).toLoadRect (harg3.unread y3) (ix2 k j)
      = W k ⟨18944 + (512 * t + j.val), by have := B.lt; omega⟩ :=
  (ld2 arg3 harg3 y3 ![0, 0] inb_S3584x512_S3584x512_0_0 k j k j (Nat.zero_add _).symm (Nat.zero_add _).symm).trans (B.wu k j)

theorem ld_sg (k : Fin 4) (l : Fin 128) :
    View.readAt (Elt Ideal) arg4.view (Rect.unit (s := S1x512) (offC k.val) S1x128.size (inbS k)).toLoadRect (harg4.unread y4) (ix2 0 l)
      = S ⟨512 * t + (128 * k.val + l.val), by have := B.lt; omega⟩ :=
  (ld2 arg4 harg4 y4 (offC k.val) (inbS k) (0 : Fin 1) l (0 : Fin 1) ⟨128 * k.val + l.val, by omega⟩ rfl rfl).trans (B.sg _)

theorem ld_su (k : Fin 4) (l : Fin 128) :
    View.readAt (Elt Ideal) arg5.view (Rect.unit (s := S1x512) (offC k.val) S1x128.size (inbS k)).toLoadRect (harg5.unread y5) (ix2 0 l)
      = S ⟨18944 + (512 * t + (128 * k.val + l.val)), by have := B.lt; omega⟩ :=
  (ld2 arg5 harg5 y5 (offC k.val) (inbS k) (0 : Fin 1) l (0 : Fin 1) ⟨128 * k.val + l.val, by omega⟩ rfl rfl).trans (B.su _)

end Loads

/-! ## The first point -/

section A

variable (hc0 : cond0_0 i) (hc1 : cond0_1 i) (hc2 : ¬cond0_2 i) (hc3 : ¬cond0_3 i) (hy1 : ∀ r k, y1 (ix2 r k) = X r k)
include hy1

theorem ld_x (q : Fin 3) (r : Fin 256) (k : Fin 3584) :
    View.readAt (Elt Ideal) arg1.view (Rect.unit (s := S768x3584) (offR q) S256x3584.size (inbX q)).toLoadRect (harg1.unread y1) (ix2 r k)
      = X (rowIn q r) k :=
  (ld2 arg1 harg1 y1 (offR q) (inbX q) r k (rowIn q r) k rfl (Nat.zero_add _).symm).trans (hy1 _ _)

theorem cov_xq (q : Fin 3) (r : Fin 256) (k : Fin 3584) :
    arg8.view.readCov (Val := Elt Ideal) (xcPieces (F := Ideal) (fun q => View.readAt (Elt Ideal) arg1.view (Rect.unit (s := S768x3584) (offR q) S256x3584.size (inbX q)).toLoadRect (harg1.unread y1)))
      (Rect.unit (s := S768x3584) (offR q) S256x3584.size (inbX q)).toLoadRect (ix2 r k) = rowCode (X (rowIn q r)) k :=
  (rd2 arg8.view _ (offR q) (inbX q) r k (rowIn q r) k rfl (Nat.zero_add _).symm).trans
    (xc_read X _ (ld_x X arg1 harg1 y1 hy1) arg8.view _ (rowIn q r) k)

theorem cov_xs (q : Fin 3) (r : Fin 256) (l : Fin 128) :
    arg12.view.readCov (Val := Elt Ideal) (xsbPieces (F := Ideal) (fun q => View.readAt (Elt Ideal) arg1.view (Rect.unit (s := S768x3584) (offR q) S256x3584.size (inbX q)).toLoadRect (harg1.unread y1)))
      (Rect.unit (s := S768x128) (offR q) S256x128.size (inbL q)).toLoadRect (ix2 r l) = rowScale (X (rowIn q r)) :=
  (rd2 arg12.view _ (offR q) (inbL q) r l (rowIn q r) l rfl (Nat.zero_add _).symm).trans
    (xsb_read X _ (ld_x X arg1 harg1 y1 hy1) arg12.view _ (rowIn q r) l)

theorem A_xc : arg8.view.read (Elt Ideal) (arg8.view.writes (Elt Ideal) (harg8.unread y8) (runA (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).1) = xcB X := by
  rw [runA_8]
  funext j
  obtain ⟨r, k, rfl⟩ : ∃ (r : Fin 768) (k : Fin 3584), j = ix2 r k := ⟨j 0, j 1, eq_ix2 j⟩
  exact xc_read X _ (ld_x X arg1 harg1 y1 hy1) arg8.view _ r k

theorem A_xs : arg9.view.read (Elt Ideal) (arg9.view.writes (Elt Ideal) (harg9.unread y9) (runA (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).2.1) = xs1B X := by
  rw [runA_9]
  funext j
  obtain ⟨r, k, rfl⟩ : ∃ (r : Fin 768) (k : Fin 1), j = ix2 r k := ⟨j 0, j 1, eq_ix2 j⟩
  exact xs_read X _ (ld_x X arg1 harg1 y1 hy1) arg9.view _ r k

theorem A_xsb : arg12.view.read (Elt Ideal) (arg12.view.writes (Elt Ideal) (harg12.unread y12) (runA (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).2.2.2.2.1) = xsB X := by
  rw [runA_12]
  funext j
  obtain ⟨r, k, rfl⟩ : ∃ (r : Fin 768) (k : Fin 128), j = ix2 r k := ⟨j 0, j 1, eq_ix2 j⟩
  exact xsb_read X _ (ld_x X arg1 harg1 y1 hy1) arg12.view _ r k

variable (B : Blocks W S i 0 y2 y3 y4 y5)
include B

theorem A_h : HOK X W S 1 (arg10.view.read (Elt Ideal) (arg10.view.writes (Elt Ideal) (harg10.unread y10) (runA (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).2.2.1)) := by
  rw [runA_10]
  intro k r j hk
  have hk0 : k.val = 0 := by omega
  obtain rfl : k = ⟨0, B.lt⟩ := Fin.ext hk0
  exact h_read X W S 0 B.lt _ _ _ _ _ _ (cov_xq X arg1 harg1 arg8 y1 hy1) (ld_wg W S i arg2 harg2 y2 y3 y4 y5 B) (ld_wu W S i arg3 harg3 y2 y3 y4 y5 B)
    (cov_xs X arg1 harg1 arg12 y1 hy1) (ld_sg W S i arg4 harg4 y2 y3 y4 y5 B) (ld_su W S i arg5 harg5 y2 y3 y4 y5 B) i hc1 B.row arg10.view _ r j

theorem A_am : arg11.view.read (Elt Ideal) (arg11.view.writes (Elt Ideal) (harg11.unread y11) (runA (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).2.2.2.1) = amB X W S 1 := by
  rw [runA_11]
  funext j
  obtain ⟨r, l, rfl⟩ : ∃ (r : Fin 768) (l : Fin 128), j = ix2 r l := ⟨j 0, j 1, eq_ix2 j⟩
  have hr := r.isLt
  obtain ⟨z, hz, e⟩ := first_read arg11.view arg11.view (harg11.unread y11) _ r l ⟨r.val / 256, by omega⟩ ⟨r.val % 256, by omega⟩
    (rowIn_div r _ _) 3 le_rfl (by show r.val / 256 < 3; omega)
  refine e.trans ((maxStep_h X W S 0 B.lt _ _ _ _ _ _ (cov_xq X arg1 harg1 arg8 y1 hy1) (ld_wg W S i arg2 harg2 y2 y3 y4 y5 B) (ld_wu W S i arg3 harg3 y2 y3 y4 y5 B)
    (cov_xs X arg1 harg1 arg12 y1 hy1) (ld_sg W S i arg4 harg4 y2 y3 y4 y5 B) (ld_su W S i arg5 harg5 y2 y3 y4 y5 B) z _ _ _ (hz _ _)).trans ?_)
  rw [rowIn_div]
  rfl

end A

/-! ## The other column steps -/

theorem ld_xq (q : Fin 3) (r : Fin 256) (k : Fin 3584) :
    View.readAt (Elt Ideal) arg8.view (Rect.unit (s := S768x3584) (offR q) S256x3584.size (inbX q)).toLoadRect (harg8.unread (xcB X)) (ix2 r k)
      = rowCode (X (rowIn q r)) k :=
  ld2 arg8 harg8 (xcB X) (offR q) (inbX q) r k (rowIn q r) k rfl (Nat.zero_add _).symm

theorem ld_xsb (q : Fin 3) (r : Fin 256) (l : Fin 128) :
    View.readAt (Elt Ideal) arg12.view (Rect.unit (s := S768x128) (offR q) S256x128.size (inbL q)).toLoadRect (harg12.unread (xsB X)) (ix2 r l)
      = rowScale (X (rowIn q r)) :=
  ld2 arg12 harg12 (xsB X) (offR q) (inbL q) r l (rowIn q r) l rfl (Nat.zero_add _).symm

theorem ld_am (n : ℕ) (q : Fin 3) (r : Fin 256) (l : Fin 128) :
    View.readAt (Elt Ideal) arg11.view (Rect.unit (s := S768x128) (offR q) S256x128.size (inbL q)).toLoadRect (harg11.unread (amB X W S n)) (ix2 r l)
      = am (h X W S) n (rowIn q r) l :=
  ld2 arg11 harg11 (amB X W S n) (offR q) (inbL q) r l (rowIn q r) l rfl (Nat.zero_add _).symm

section B

variable (hc0 : ¬cond0_0 i) (hc1 : cond0_1 i) (hc2 : ¬cond0_2 i) (hc3 : ¬cond0_3 i) {t : ℕ} (B : Blocks W S i t y2 y3 y4 y5)
include B

theorem B_h (hf : HOK X W S t y10) (e8 : y8 = xcB X) (e12 : y12 = xsB X) :
    HOK X W S (t + 1) (arg10.view.read (Elt Ideal) (arg10.view.writes (Elt Ideal) (harg10.unread y10) (runB (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).1)) := by
  subst e8 e12
  rw [runB_10]
  intro k r j hk
  by_cases hkt : k.val = t
  · obtain rfl : k = ⟨t, B.lt⟩ := Fin.ext hkt
    exact h_read X W S t B.lt _ _ _ _ _ _ (ld_xq X arg8 harg8) (ld_wg W S i arg2 harg2 y2 y3 y4 y5 B) (ld_wu W S i arg3 harg3 y2 y3 y4 y5 B)
      (ld_xsb X arg12 harg12) (ld_sg W S i arg4 harg4 y2 y3 y4 y5 B) (ld_su W S i arg5 harg5 y2 y3 y4 y5 B) i hc1 B.row arg10.view _ r j
  · refine (h_miss i hc1 t B.row _ _ _ _ _ _ arg10.view _ k hkt r j).trans ?_
    rw [harg10.read_unread]
    exact hf k r j (by omega)

theorem B_am (e8 : y8 = xcB X) (e12 : y12 = xsB X) (e11 : y11 = amB X W S t) :
    arg11.view.read (Elt Ideal) (arg11.view.writes (Elt Ideal) (harg11.unread y11) (runB (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).2.1) = amB X W S (t + 1) := by
  subst e8 e12 e11
  rw [runB_11]
  funext j
  obtain ⟨r, l, rfl⟩ : ∃ (r : Fin 768) (l : Fin 128), j = ix2 r l := ⟨j 0, j 1, eq_ix2 j⟩
  exact amax_read X W S t B.lt _ _ _ _ _ _ (ld_xq X arg8 harg8) (ld_wg W S i arg2 harg2 y2 y3 y4 y5 B) (ld_wu W S i arg3 harg3 y2 y3 y4 y5 B)
    (ld_xsb X arg12 harg12) (ld_sg W S i arg4 harg4 y2 y3 y4 y5 B) (ld_su W S i arg5 harg5 y2 y3 y4 y5 B) _ (ld_am X W S arg11 harg11 t) arg11.view _ r l

end B

/-! ## The row steps -/

theorem hs_of_am (inv : Bool) (v : FVec Ideal S768x128 .f32) (hv : ∀ r l, v (ix2 r l) = am (h X W S) 37 r l) (r : Fin 768) (q : Fin 1) :
    hScale (F := Ideal) inv v (ix2 r q) = Scale.scale inv (rowMax (h X W S r)) := by
  have e : (Finset.univ.sup fun l : Fin 128 => v (ix2 r l)) = rowMax (h X W S r) := by
    simp only [hv]
    exact am_sup (h X W S) r
  rw [hScale_at inv v r q (by rw [e]; exact rowMax_nonneg (n := 18943) _), e]

theorem ld_am37 (r : Fin 768) (l : Fin 128) :
    View.readAt (Elt Ideal) arg11.view (Rect.unit (s := S768x128) ![0, 0] S768x128.size inb_S768x128_S768x128_0_0).toLoadRect (harg11.unread (amB X W S 37)) (ix2 r l)
      = am (h X W S) 37 r l :=
  ld2 arg11 harg11 (amB X W S 37) ![0, 0] inb_S768x128_S768x128_0_0 r l r l (Nat.zero_add _).symm (Nat.zero_add _).symm

theorem ld_h (b : ℕ) (hb : 96 * b + 96 ≤ 768) (hrow : rowT i = 96 * b) (hf : HOK X W S 37 y10) (hc3 : k0_cond4 i = 1#1) (n : Fin 148) (r : Fin 96) (l : Fin 128) :
    View.readAt (Elt Ideal) arg10.view (Rect.unit (s := S37x768x512) (offT i n) S1x96x128.size (inbT i hc3 n)).toLoadRect (harg10.unread y10) (ix3 0 r l)
      = h X W S ⟨96 * b + r.val, by omega⟩ ⟨128 * n.val + l.val, by omega⟩ := by
  refine (ld3 arg10 harg10 y10 (offT i n) (inbT i hc3 n) (0 : Fin 1) r l ⟨n.val / 4, by omega⟩ ⟨96 * b + r.val, by omega⟩
    ⟨128 * (n.val % 4) + l.val, by omega⟩ rfl (by show 96 * b + r.val = rowT i + r.val; omega) rfl).trans ((hf _ _ _ (by show n.val / 4 < 37; omega)).trans ?_)
  congr 1
  exact Fin.ext (show 512 * (n.val / 4) + (128 * (n.val % 4) + l.val) = 128 * n.val + l.val by omega)

section C

variable (hc0 : ¬cond0_0 i) (hc1 : ¬cond0_1 i) (hc2 : cond0_2 i) (hc3 : cond0_3 i)

theorem C_hs (e11 : y11 = amB X W S 37) :
    arg6.view.read (Elt Ideal) (arg6.view.writes (Elt Ideal) (harg6.unread y6) (runC (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).1) = hsB X W S := by
  subst e11
  rw [runC_6]
  funext j
  obtain ⟨r, q, rfl⟩ : ∃ (r : Fin 768) (q : Fin 1), j = ix2 r q := ⟨j 0, j 1, eq_ix2 j⟩
  exact (read_whole2 arg6.view _ inb_S768x1_S768x1_0_0 _ r q).trans (hs_of_am X W S false _ (ld_am37 X W S arg11 harg11) r q)

theorem C_inv_at (f : arg13.view.ty.Contents (Elt Ideal)) (r : Fin 768) (l : Fin 128) :
    arg13.view.read (Elt Ideal) (arg13.view.writes (Elt Ideal) f [⟨Rect.unit (s := S768x128) ![0, 0] S768x128.size inb_S768x128_S768x128_0_0, k0_pay5 (hScale (F := Ideal) true (View.readAt (Elt Ideal) arg11.view (Rect.unit (s := S768x128) ![0, 0] S768x128.size inb_S768x128_S768x128_0_0).toLoadRect (harg11.unread (amB X W S 37))))⟩]) (ix2 r l)
      = Scale.scale true (rowMax (h X W S r)) :=
  (read_whole2 arg13.view f inb_S768x128_S768x128_0_0 _ r l).trans ((pay5_at _ r l).trans (hs_of_am X W S true _ (ld_am37 X W S arg11 harg11) r 0))

theorem C_inv (e11 : y11 = amB X W S 37) :
    arg13.view.read (Elt Ideal) (arg13.view.writes (Elt Ideal) (harg13.unread y13) (runC (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).2.2.1) = invB X W S := by
  subst e11
  rw [runC_13]
  funext j
  obtain ⟨r, l, rfl⟩ : ∃ (r : Fin 768) (l : Fin 128), j = ix2 r l := ⟨j 0, j 1, eq_ix2 j⟩
  exact C_inv_at X W S arg11 harg11 arg13 _ r l

theorem C_hc (e11 : y11 = amB X W S 37) (b : ℕ) (hb : 96 * b + 96 ≤ 768) (hrow : rowT i = 96 * b) (hf : HOK X W S 37 y10) :
    arg7.view.read (Elt Ideal) (arg7.view.writes (Elt Ideal) (harg7.unread y7) (runC (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).2.1) = hcB X W S b hb := by
  subst e11
  rw [runC_7]
  funext j
  obtain ⟨r, n, rfl⟩ : ∃ (r : Fin 96) (n : Fin 18944), j = ix2 r n := ⟨j 0, j 1, eq_ix2 j⟩
  exact hc_read (h X W S) (96 * b) hb _ _
    (fun r l => (rd2 arg13.view _ (k0_off13 i) (k0_off13_inb i hc3) r l ⟨96 * b + r.val, by omega⟩ l
      (by show 96 * b + r.val = rowT i + r.val; omega) (Nat.zero_add _).symm).trans (C_inv_at X W S arg11 harg11 arg13 _ _ _))
    (ld_h X W S i arg10 harg10 y10 b hb hrow hf hc3) arg7.view _ r n

end C

section D

variable (hc0 : ¬cond0_0 i) (hc1 : ¬cond0_1 i) (hc2 : ¬cond0_2 i) (hc3 : cond0_3 i)

theorem D_hc (e13 : y13 = invB X W S) (b : ℕ) (hb : 96 * b + 96 ≤ 768) (hrow : rowT i = 96 * b) (hf : HOK X W S 37 y10) :
    arg7.view.read (Elt Ideal) (arg7.view.writes (Elt Ideal) (harg7.unread y7) (runD (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 hc3 y1 y2 y3 y4 y5 y6 y7 y8 y9 y10 y11 y12 y13).1) = hcB X W S b hb := by
  subst e13
  rw [runD_7]
  funext j
  obtain ⟨r, n, rfl⟩ : ∃ (r : Fin 96) (n : Fin 18944), j = ix2 r n := ⟨j 0, j 1, eq_ix2 j⟩
  exact hc_read (h X W S) (96 * b) hb _ _
    (fun r l => ld2 arg13 harg13 (invB X W S) (k0_off13 i) (k0_off13_inb i hc3) r l ⟨96 * b + r.val, by omega⟩ l
      (by show 96 * b + r.val = rowT i + r.val; omega) (Nat.zero_add _).symm)
    (ld_h X W S i arg10 harg10 y10 b hb hrow hf hc3) arg7.view _ r n

end D

end Runs

end Cert.KernelIdeal.Value
-- ==== Proof.KernelIdeal.Blocks.lean ====
/- The input blocks at each point as the arguments' elements, and the facts of the schedule: which block each window is at,
   where each result is idle, and where it is written back. -/
module

public import proofs.«01_k».proof.Proof.KernelIdeal.Values
public import Idealize.ShloMosaic.Lib.Pipeline.TableIdle

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Body Cert.Spec

/-! ## The schedule -/

theorem idxX : ∀ t : Fin cfg0.N, win0_0.index t = ![0, 0] :=
  (by decide +kernel : ∀ t : Fin grid0.N, win0_0.index t = ![0, 0])

theorem idxW : ∀ t : Fin cfg0.N, t.val < 37 → win0_1.index t = ![0, t.val] ∧ win0_2.index t = ![0, 37 + t.val]
    ∧ win0_3.index t = ![0, t.val] ∧ win0_4.index t = ![0, 37 + t.val] :=
  (by decide +kernel : ∀ t : Fin grid0.N, t.val < 37 → win0_1.index t = ![0, t.val] ∧ win0_2.index t = ![0, 37 + t.val]
    ∧ win0_3.index t = ![0, t.val] ∧ win0_4.index t = ![0, 37 + t.val])

theorem idxH : ∀ t : Fin cfg0.N, win0_6.index t = ![t.val - 37, 0] :=
  (by decide +kernel : ∀ t : Fin grid0.N, win0_6.index t = ![t.val - 37, 0])

theorem row_eq : ∀ t : Fin cfg0.N, (Scalar.indexCast (BitVec.ofNat 32 (grid0.coords t 0).val) : Index).toNat = t.val :=
  (by decide +kernel : ∀ t : Fin grid0.N, (Scalar.indexCast (BitVec.ofNat 32 (grid0.coords t 0).val) : Index).toNat = t.val)

theorem rowT_eq : ∀ t : Fin cfg0.N, 37 ≤ t.val → rowT (grid0.coords t) = 96 * (t.val - 37) :=
  (by decide +kernel : ∀ t : Fin grid0.N, 37 ≤ t.val → rowT (grid0.coords t) = 96 * (t.val - 37))

theorem idle5 : ∀ t : Fin cfg0.N, cfg0.idle 5 (cfg0.grid.coords t) = !decide (t.val = 37) :=
  (by decide +kernel : ∀ t : Fin grid0.N, idle0 5 (grid0.coords t) = !decide (t.val = 37))
theorem idle6 : ∀ t : Fin cfg0.N, cfg0.idle 6 (cfg0.grid.coords t) = decide (t.val < 37) :=
  (by decide +kernel : ∀ t : Fin grid0.N, idle0 6 (grid0.coords t) = decide (t.val < 37))
theorem idle7 : ∀ t : Fin cfg0.N, cfg0.idle 7 (cfg0.grid.coords t) = !decide (t.val = 0) :=
  (by decide +kernel : ∀ t : Fin grid0.N, idle0 7 (grid0.coords t) = !decide (t.val = 0))
theorem idle8 : ∀ t : Fin cfg0.N, cfg0.idle 8 (cfg0.grid.coords t) = !decide (t.val = 0) :=
  (by decide +kernel : ∀ t : Fin grid0.N, idle0 8 (grid0.coords t) = !decide (t.val = 0))

theorem flush5 (t : Fin cfg0.N) : (cfg0.win 5).flush t = decide (t.val = 44) :=
  ((cfg0.win 5).flush_eq_flushF t).trans ((by decide +kernel : ∀ t : Fin grid0.N, win0_5.flushF t = decide (t.val = 44)) t)
theorem flush6 (t : Fin cfg0.N) : (cfg0.win 6).flush t = decide (37 ≤ t.val) :=
  ((cfg0.win 6).flush_eq_flushF t).trans ((by decide +kernel : ∀ t : Fin grid0.N, win0_6.flushF t = decide (37 ≤ t.val)) t)
theorem flush7 (t : Fin cfg0.N) : (cfg0.win 7).flush t = decide (t.val = 44) :=
  ((cfg0.win 7).flush_eq_flushF t).trans ((by decide +kernel : ∀ t : Fin grid0.N, win0_7.flushF t = decide (t.val = 44)) t)
theorem flush8 (t : Fin cfg0.N) : (cfg0.win 8).flush t = decide (t.val = 44) :=
  ((cfg0.win 8).flush_eq_flushF t).trans ((by decide +kernel : ∀ t : Fin grid0.N, win0_8.flushF t = decide (t.val = 44)) t)

theorem N_eq : cfg0.N = 45 := N_0

/-- Whether nothing is stored yet into the products' scales' buffer, and into the activations' two. -/
theorem fresh5 : ∀ n, n ≤ cfg0.N → cfg0.fresh 5 n = (decide (n ≤ 37) || decide (n = 45)) :=
  cfg0.fresh_tab 5 _ rfl fun t => by
    have ht := lt_of_lt_of_eq t.isLt N_eq
    rw [flush5, idle5, Bool.eq_iff_iff]
    simp
    omega
theorem fresh7 : ∀ n, n ≤ cfg0.N → cfg0.fresh 7 n = (decide (n = 0) || decide (n = 45)) :=
  cfg0.fresh_tab 7 _ rfl fun t => by
    have ht := lt_of_lt_of_eq t.isLt N_eq
    rw [flush7, idle7, Bool.eq_iff_iff]
    simp
    omega
theorem fresh8 : ∀ n, n ≤ cfg0.N → cfg0.fresh 8 n = (decide (n = 0) || decide (n = 45)) :=
  cfg0.fresh_tab 8 _ rfl fun t => by
    have ht := lt_of_lt_of_eq t.isLt N_eq
    rw [flush8, idle8, Bool.eq_iff_iff]
    simp
    omega

/-! ## The blocks -/

variable (m : (ℓ : Loc nD τ sig) → Buf (Elt Ideal) ℓ) (c : Dev nD)

abbrev argX : FVec Ideal ⟨3, ![2, 384, 3584]⟩ .bf16 := m ((c : Thread nD τ).loc main_arg0)
abbrev argW : FVec Ideal ⟨2, ![3584, 37888]⟩ .fp8e4m3 := m ((c : Thread nD τ).loc main_arg1)
abbrev argS : FVec Ideal ⟨1, ![37888]⟩ .f32 := m ((c : Thread nD τ).loc main_arg2)

theorem blk0 (t : Fin cfg0.N) (r : Fin 768) (k : Fin 3584) :
    (show FVec Ideal S768x3584 .bf16 from iblk m c 0 t) (ix2 r k) = rowsOf (argX m c) r k := by
  show iblk m c 0 t (ix2 r k) = _
  blk_simp [iblk]
  entry_read
  pointwise
  unfold rowsOf
  blk_ext [idxX t]

theorem blk1 (t : Fin cfg0.N) (ht : t.val < 37) (k : Fin 3584) (j : Fin 512) :
    (show FVec Ideal S3584x512 .fp8e4m3 from iblk m c 1 t) (ix2 k j) = weightsOf (argW m c) k ⟨512 * t.val + j.val, by omega⟩ := by
  show iblk m c 1 t (ix2 k j) = _
  unfold weightsOf
  blk_ext [iblk, V, (idxW t ht).1]

theorem blk2 (t : Fin cfg0.N) (ht : t.val < 37) (k : Fin 3584) (j : Fin 512) :
    (show FVec Ideal S3584x512 .fp8e4m3 from iblk m c 2 t) (ix2 k j) = weightsOf (argW m c) k ⟨18944 + (512 * t.val + j.val), by omega⟩ := by
  show iblk m c 2 t (ix2 k j) = _
  unfold weightsOf
  blk_ext [iblk, V, (idxW t ht).2.1]

theorem blk3 (t : Fin cfg0.N) (ht : t.val < 37) (j : Fin 512) :
    (show FVec Ideal S1x512 .f32 from iblk m c 3 t) (ix2 0 j) = scalesOf (argS m c) ⟨512 * t.val + j.val, by omega⟩ := by
  show iblk m c 3 t (ix2 0 j) = _
  blk_simp [iblk]
  entry_read
  pointwise
  unfold scalesOf
  blk_ext [(idxW t ht).2.2.1]

theorem blk4 (t : Fin cfg0.N) (ht : t.val < 37) (j : Fin 512) :
    (show FVec Ideal S1x512 .f32 from iblk m c 4 t) (ix2 0 j) = scalesOf (argS m c) ⟨18944 + (512 * t.val + j.val), by omega⟩ := by
  show iblk m c 4 t (ix2 0 j) = _
  blk_simp [iblk]
  entry_read
  pointwise
  unfold scalesOf
  blk_ext [(idxW t ht).2.2.2]

theorem blocks (t : Fin cfg0.N) (ht : t.val < 37) :
    Blocks (weightsOf (argW m c)) (scalesOf (argS m c)) (grid0.coords t) t.val (iblk m c 1 t) (iblk m c 2 t) (iblk m c 3 t) (iblk m c 4 t) where
  lt := ht
  row := row_eq t
  wg := blk1 m c t ht
  wu := blk2 m c t ht
  sg := blk3 m c t ht
  su := blk4 m c t ht

end Cert.KernelIdeal.Value
-- ==== Proof.KernelIdeal.Run.lean ====
/- THE RUN of the idealized program with what it computes: the four results at every point, the scratch between points, and
   the result arrays at the end. -/
module

public import proofs.«01_k».proof.Proof.KernelIdeal.Blocks
public import Idealize.ShloMosaic.Lib.Claim

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Cert.Spec

local notation "𝕄" => MT nD τ sig Unit (Elt Ideal) ℕ (UR sig nD τ) ℕ

variable (m : (ℓ : Loc nD τ sig) → Buf (Elt Ideal) ℓ) (ρ : Dev nD → PrngReg)

/-- The arguments by row and column. -/
abbrev gX (c : Dev nD) : Fin 768 → Fin 3584 → EReal := rowsOf (argX m c)
abbrev gW (c : Dev nD) : Fin 3584 → Fin 37888 → EReal := weightsOf (argW m c)
abbrev gS (c : Dev nD) : Fin 37888 → EReal := scalesOf (argS m c)

theorem hcb (t : Fin cfg0.N) : 96 * (t.val - 37) + 96 ≤ 768 := by
  have := lt_of_lt_of_eq t.isLt N_eq
  omega

/-- The scratch before point `n`: the products of the column steps run so far; from the first point on the lanes' maxima
    (of at most 37 steps) and the activations' scales; after point 37 the inverses of the products' scales. -/
def Phi (c : Dev nD) (n : ℕ) : sProp 𝕄 :=
  iprop(iprop((∃ f, ⌜HOK (gX m c) (gW m c) (gS m c) (min n 37) f⌝ ∗ owns (c : Thread nD τ) scM0_0 fullShare f)
    ∗ (∃ f, ⌜0 < n → f = amB (gX m c) (gW m c) (gS m c) (min n 37)⌝ ∗ owns (c : Thread nD τ) scM0_1 fullShare f)
    ∗ (∃ f, ⌜0 < n → f = xsB (gX m c)⌝ ∗ owns (c : Thread nD τ) scM0_2 fullShare f)
    ∗ (∃ f, ⌜37 < n → f = invB (gX m c) (gW m c) (gS m c)⌝ ∗ owns (c : Thread nD τ) scM0_3 fullShare f)) ∗ (∃ r, prngReg c r))

/-- The proof data: each input's buffer at its block, each result's at what the program has stored there. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hsB (gX m c) (gW m c) (gS m c)
    | ⟨6, _⟩ => hcB (gX m c) (gW m c) (gS m c) (t.val - 37) (hcb t)
    | ⟨7, _⟩ => xcB (gX m c)
    | ⟨8, _⟩ => xs1B (gX m c)
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hsB (gX m c) (gW m c) (gS m c) := by dsimp only [dats]
theorem after0_6 (c : Dev nD) (t : Fin cfg0.N) : (dats m 0 c).after 6 t = hcB (gX m c) (gW m c) (gS m c) (t.val - 37) (hcb t) := by dsimp only [dats]
theorem after0_7 (c : Dev nD) (t : Fin cfg0.N) : (dats m 0 c).after 7 t = xcB (gX m c) := by dsimp only [dats]
theorem after0_8 (c : Dev nD) (t : Fin cfg0.N) : (dats m 0 c).after 8 t = xs1B (gX m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- A result's buffer holds what was stored into it, once something was. -/
theorem before0_5 (c : Dev nD) (t : Fin cfg0.N) (ht : 37 < t.val) (d) : (dats m 0 c).before 5 t d = hsB (gX m c) (gW m c) (gS m c) := by
  have hN := lt_of_lt_of_eq t.isLt N_eq
  rw [(dats m 0 c).before_out_traj 5 rfl (fun _ _ => rfl) (fun t _ _ _ => by rw [after0_5, after0_5]) t.val t rfl d, fresh5 _ (le_of_lt t.isLt),
    if_neg (by simp; omega), after0_5]
theorem before0_7 (c : Dev nD) (t : Fin cfg0.N) (ht : 0 < t.val) (d) : (dats m 0 c).before 7 t d = xcB (gX m c) := by
  have hN := lt_of_lt_of_eq t.isLt N_eq
  rw [(dats m 0 c).before_out_traj 7 rfl (fun _ _ => rfl) (fun t _ _ _ => by rw [after0_7, after0_7]) t.val t rfl d, fresh7 _ (le_of_lt t.isLt),
    if_neg (by simp; omega), after0_7]
theorem before0_8 (c : Dev nD) (t : Fin cfg0.N) (ht : 0 < t.val) (d) : (dats m 0 c).before 8 t d = xs1B (gX m c) := by
  have hN := lt_of_lt_of_eq t.isLt N_eq
  rw [(dats m 0 c).before_out_traj 8 rfl (fun _ _ => rfl) (fun t _ _ _ => by rw [after0_8, after0_8]) t.val t rfl d, fresh8 _ (le_of_lt t.isLt),
    if_neg (by simp; omega), after0_8]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- A window that is not idle is left at `after`. -/
theorem leaves0 (c : Dev nD) (t : Fin cfg0.N) (w : Fin cfg0.W) (hw : cfg0.idle w (cfg0.grid.coords t) = false) :
    (dats m 0 c).leavesExact w t = owns (c : Thread nD τ) ((cfg0.win w).stage (cfg0.slots t w)) fullShare ((dats m 0 c).after w t) := by
  unfold Dat.leavesExact; rw [hw]

/-- An idle window is left as found. -/
theorem keep0 (c : Dev nD) (t : Fin cfg0.N) (w : Fin cfg0.W) (hw : cfg0.idle w (cfg0.grid.coords t) = true) (d)
    (hf : (cfg0.win w).flush t = true → (dats m 0 c).before w t d = (dats m 0 c).after w t) :
    owns (c : Thread nD τ) ((cfg0.win w).stage (cfg0.slots t w)) fullShare ((dats m 0 c).before w t d) ⊢ (dats m 0 c).leavesExact w t := by
  cases h : (cfg0.win w).flush t with
  | false =>
    rw [(dats m 0 c).leavesExact_idle w t hw h]
    iintro H
    iexists d
    iexact H
  | true =>
    rw [hf h]
    unfold Dat.leavesExact
    rw [hw, h]

/-- A buffer owned at some contents is owned at equal ones. -/
theorem owns_to {sp : Space} {s : Shape} {e : EltTy} {c : Thread nD τ} {a : Memref sig c.2.kind sp s e} {x y : s.Idx → Elt Ideal e} (h : x = y) :
    (owns c a fullShare x : sProp 𝕄) ⊢ owns c a fullShare y := Entails.of_eq (by rw [h])

/-- The results' windows, where idle and where stored. -/
theorem keep5 (c : Dev nD) (t : Fin cfg0.N) (ht : t.val ≠ 37) (d) :
    owns (c : Thread nD τ) (ms0_5 t) fullShare ((dats m 0 c).before 5 t d) ⊢ (dats m 0 c).leavesExact 5 t :=
  keep0 m c t 5 (by rw [idle5]; simp; omega) d fun h => by
    rw [flush5] at h
    rw [before0_5 m c t (by have := of_decide_eq_true h; omega), after0_5]
theorem keep6 (c : Dev nD) (t : Fin cfg0.N) (ht : t.val < 37) (d) :
    owns (c : Thread nD τ) (ms0_6 t) fullShare ((dats m 0 c).before 6 t d) ⊢ (dats m 0 c).leavesExact 6 t :=
  keep0 m c t 6 (by rw [idle6]; simp; omega) d fun h => by
    rw [flush6] at h
    exact absurd (of_decide_eq_true h) (by omega)
theorem keep7 (c : Dev nD) (t : Fin cfg0.N) (ht : 0 < t.val) (d) :
    owns (c : Thread nD τ) (ms0_7 t) fullShare ((dats m 0 c).before 7 t d) ⊢ (dats m 0 c).leavesExact 7 t :=
  keep0 m c t 7 (by rw [idle7]; simp; omega) d fun h => by rw [before0_7 m c t ht, after0_7]
theorem keep8 (c : Dev nD) (t : Fin cfg0.N) (ht : 0 < t.val) (d) :
    owns (c : Thread nD τ) (ms0_8 t) fullShare ((dats m 0 c).before 8 t d) ⊢ (dats m 0 c).leavesExact 8 t :=
  keep0 m c t 8 (by rw [idle8]; simp; omega) d fun h => by rw [before0_8 m c t ht, after0_8]
theorem live5 (c : Dev nD) (t : Fin cfg0.N) (ht : t.val = 37) :
    (owns (c : Thread nD τ) (ms0_5 t) fullShare (hsB (gX m c) (gW m c) (gS m c)) : sProp 𝕄) ⊢ (dats m 0 c).leavesExact 5 t := by
  rw [leaves0 m c t 5 (by rw [idle5]; simp; omega), after0_5]
theorem live6 (c : Dev nD) (t : Fin cfg0.N) (ht : 37 ≤ t.val) :
    (owns (c : Thread nD τ) (ms0_6 t) fullShare (hcB (gX m c) (gW m c) (gS m c) (t.val - 37) (hcb t)) : sProp 𝕄) ⊢ (dats m 0 c).leavesExact 6 t := by
  rw [leaves0 m c t 6 (by rw [idle6]; simp; omega), after0_6]
theorem live7 (c : Dev nD) (t : Fin cfg0.N) (ht : t.val = 0) :
    (owns (c : Thread nD τ) (ms0_7 t) fullShare (xcB (gX m c)) : sProp 𝕄) ⊢ (dats m 0 c).leavesExact 7 t := by
  rw [leaves0 m c t 7 (by rw [idle7]; simp; omega), after0_7]
theorem live8 (c : Dev nD) (t : Fin cfg0.N) (ht : t.val = 0) :
    (owns (c : Thread nD τ) (ms0_8 t) fullShare (xs1B (gX m c)) : sProp 𝕄) ⊢ (dats m 0 c).leavesExact 8 t := by
  rw [leaves0 m c t 8 (by rw [idle8]; simp; omega), after0_8]

theorem HOK_cast {X W S} {n n' : ℕ} {f} (e : n = n') (hf : HOK X W S n f) : HOK X W S n' f := e ▸ hf

set_option maxHeartbeats 8000000 in
/-- The body at any point: the point's case is found by arithmetic, its run applies, and what it leaves is what the proof
    data says. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [leaves0 m c t 0 (liveAt0_0 t), leaves0 m c t 1 (liveAt0_1 t), leaves0 m c t 2 (liveAt0_2 t), leaves0 m c t 3 (liveAt0_3 t), leaves0 m c t 4 (liveAt0_4 t), after0_0, after0_1, after0_2, after0_3, after0_4]
  unfold Phi
  have hN : t.val < 45 := lt_of_lt_of_eq t.isLt N_eq
  iintro ⟨⟨⟨⟨%s0, %hs0, HS0⟩, ⟨%s1, %hs1, HS1⟩, ⟨%s2, %hs2, HS2⟩, ⟨%s3, %hs3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases hA : t.val = 0
  · have hy1 := blk0 m c t
    have B : Blocks (gW m c) (gS m c) (grid0.coords t) 0 (iblk m c 1 t) (iblk m c 2 t) (iblk m c 3 t) (iblk m c 4 t) := by
      have h := blocks m c t (by omega)
      rwa [hA] at h
    iapply ((runA c (grid0.coords t) _ _ _ _ _ _ _ _ _ _ _ _ _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]
        · iexists _
          isplitr
          · ipureintro; exact HOK_cast (show 1 = min (t.val + 1) 37 by omega) (A_h (gX m c) (gW m c) (gS m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3 ((hcond0_0 t).mpr (by omega)) ((hcond0_1 t).mpr (by omega)) (fun h => absurd ((hcond0_2 t).mp h) (by omega)) (fun h => absurd ((hcond0_3 t).mp h) (by omega)) hy1 B)
          iexact HS0
        isplitl [HS1]
        · iexists _
          isplitr
          · ipureintro; exact fun _ => (A_am (gX m c) (gW m c) (gS m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3 ((hcond0_0 t).mpr (by omega)) ((hcond0_1 t).mpr (by omega)) (fun h => absurd ((hcond0_2 t).mp h) (by omega)) (fun h => absurd ((hcond0_3 t).mp h) (by omega)) hy1 B).trans (congrArg (amB (gX m c) (gW m c) (gS m c)) (show 1 = min (t.val + 1) 37 by omega))
          iexact HS1
        isplitl [HS2]
        · iexists _
          isplitr
          · ipureintro; exact fun _ => (A_xsb (gX m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3 ((hcond0_0 t).mpr (by omega)) ((hcond0_1 t).mpr (by omega)) (fun h => absurd ((hcond0_2 t).mp h) (by omega)) (fun h => absurd ((hcond0_3 t).mp h) (by omega)) hy1)
          iexact HS2
        iexists s3
        isplitr
        · ipureintro; exact fun h => absurd h (by omega)
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (keep5 m c t (by omega) d5)
      iexact H5
    isplitl [H6]
    · iapply (keep6 m c t (by omega) d6)
      iexact H6
    isplitl [H7]
    · iapply (live7 m c t hA)
      iapply (owns_to (A_xc (gX m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3 ((hcond0_0 t).mpr (by omega)) ((hcond0_1 t).mpr (by omega)) (fun h => absurd ((hcond0_2 t).mp h) (by omega)) (fun h => absurd ((hcond0_3 t).mp h) (by omega)) hy1))
      iexact H7
    iapply (live8 m c t hA)
    iapply (owns_to (A_xs (gX m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3 ((hcond0_0 t).mpr (by omega)) ((hcond0_1 t).mpr (by omega)) (fun h => absurd ((hcond0_2 t).mp h) (by omega)) (fun h => absurd ((hcond0_3 t).mp h) (by omega)) hy1))
    iexact H8
  by_cases hB : t.val < 37
  · have B := blocks m c t (by omega)
    have e8 := before0_7 m c t (by omega) d7
    iapply ((runB c (grid0.coords t) _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]
        · iexists _
          isplitr
          · ipureintro; exact HOK_cast (show t.val + 1 = min (t.val + 1) 37 by omega) (B_h (gX m c) (gW m c) (gS m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3 (fun h => absurd ((hcond0_0 t).mp h) (by omega)) ((hcond0_1 t).mpr (by omega)) (fun h => absurd ((hcond0_2 t).mp h) (by omega)) (fun h => absurd ((hcond0_3 t).mp h) (by omega)) B (HOK_cast (show min t.val 37 = t.val by omega) hs0) e8 (hs2 (by omega)))
          iexact HS0
        isplitl [HS1]
        · iexists _
          isplitr
          · ipureintro; exact fun _ => (B_am (gX m c) (gW m c) (gS m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3 (fun h => absurd ((hcond0_0 t).mp h) (by omega)) ((hcond0_1 t).mpr (by omega)) (fun h => absurd ((hcond0_2 t).mp h) (by omega)) (fun h => absurd ((hcond0_3 t).mp h) (by omega)) B e8 (hs2 (by omega)) ((hs1 (by omega)).trans (congrArg (amB (gX m c) (gW m c) (gS m c)) (show min t.val 37 = t.val by omega)))).trans (congrArg (amB (gX m c) (gW m c) (gS m c)) (show t.val + 1 = min (t.val + 1) 37 by omega))
          iexact HS1
        isplitl [HS2]
        · iexists _
          isplitr
          · ipureintro; exact fun _ => hs2 (by omega)
          iexact HS2
        iexists s3
        isplitr
        · ipureintro; exact fun h => absurd h (by omega)
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (keep5 m c t (by omega) d5)
      iexact H5
    isplitl [H6]
    · iapply (keep6 m c t (by omega) d6)
      iexact H6
    isplitl [H7]
    · iapply (keep7 m c t (by omega) d7)
      iexact H7
    iapply (keep8 m c t (by omega) d8)
    iexact H8
  by_cases hC : t.val = 37
  · have h37 := HOK_cast (show min t.val 37 = 37 by omega) hs0
    have e11 := (hs1 (by omega)).trans (congrArg (amB (gX m c) (gW m c) (gS m c)) (show min t.val 37 = 37 by omega))
    iapply ((runC c (grid0.coords t) _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) ((hcond0_3 t).mpr (by omega)) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]
        · iexists _
          isplitr
          · ipureintro; exact HOK_cast (show min t.val 37 = min (t.val + 1) 37 by omega) hs0
          iexact HS0
        isplitl [HS1]
        · iexists _
          isplitr
          · ipureintro; exact fun _ => (hs1 (by omega)).trans (congrArg (amB (gX m c) (gW m c) (gS m c)) (show min t.val 37 = min (t.val + 1) 37 by omega))
          iexact HS1
        isplitl [HS2]
        · iexists _
          isplitr
          · ipureintro; exact fun _ => hs2 (by omega)
          iexact HS2
        iexists _
        isplitr
        · ipureintro; exact fun _ => (C_inv (gX m c) (gW m c) (gS m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3 (fun h => absurd ((hcond0_0 t).mp h) (by omega)) (fun h => absurd ((hcond0_1 t).mp h) (by omega)) ((hcond0_2 t).mpr (by omega)) ((hcond0_3 t).mpr (by omega)) e11)
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (live5 m c t hC)
      iapply (owns_to (C_hs (gX m c) (gW m c) (gS m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3 (fun h => absurd ((hcond0_0 t).mp h) (by omega)) (fun h => absurd ((hcond0_1 t).mp h) (by omega)) ((hcond0_2 t).mpr (by omega)) ((hcond0_3 t).mpr (by omega)) e11))
      iexact H5
    isplitl [H6]
    · iapply (live6 m c t (by omega))
      iapply (owns_to (C_hc (gX m c) (gW m c) (gS m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3 (fun h => absurd ((hcond0_0 t).mp h) (by omega)) (fun h => absurd ((hcond0_1 t).mp h) (by omega)) ((hcond0_2 t).mpr (by omega)) ((hcond0_3 t).mpr (by omega)) e11 (t.val - 37) (hcb t) (rowT_eq t (by omega)) h37))
      iexact H6
    isplitl [H7]
    · iapply (keep7 m c t (by omega) d7)
      iexact H7
    iapply (keep8 m c t (by omega) d8)
    iexact H8
  · have h37 := HOK_cast (show min t.val 37 = 37 by omega) hs0
    iapply ((runD c (grid0.coords t) _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]
        · iexists _
          isplitr
          · ipureintro; exact HOK_cast (show min t.val 37 = min (t.val + 1) 37 by omega) hs0
          iexact HS0
        isplitl [HS1]
        · iexists _
          isplitr
          · ipureintro; exact fun _ => (hs1 (by omega)).trans (congrArg (amB (gX m c) (gW m c) (gS m c)) (show min t.val 37 = min (t.val + 1) 37 by omega))
          iexact HS1
        isplitl [HS2]
        · iexists _
          isplitr
          · ipureintro; exact fun _ => hs2 (by omega)
          iexact HS2
        iexists _
        isplitr
        · ipureintro; exact fun _ => hs3 (by omega)
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (keep5 m c t (by omega) d5)
      iexact H5
    isplitl [H6]
    · iapply (live6 m c t (by omega))
      iapply (owns_to (D_hc (gX m c) (gW m c) (gS m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) s0 s1 s2 s3 (fun h => absurd ((hcond0_0 t).mp h) (by omega)) (fun h => absurd ((hcond0_1 t).mp h) (by omega)) (fun h => absurd ((hcond0_2 t).mp h) (by omega)) ((hcond0_3 t).mpr (by omega)) (hs3 (by omega)) (t.val - 37) (hcb t) (rowT_eq t (by omega)) h37))
      iexact H6
    isplitl [H7]
    · iapply (keep7 m c t (by omega) d7)
      iexact H7
    iapply (keep8 m c t (by omega) d8)
    iexact H8

/-- The body table's row at a point's slots is the body as `bodyAt0` spells it. -/
theorem defs_row (t : Fin cfg0.N) : defs₀ (F := Ideal) .tc cfg0.body (cfg0.bodyArgs t (cfg0.slots t)) = bodyAt0 t := by
  unfold defs₀; rw [Defs.onTc_tc]

/-- The body's obligation at every point is its triple restated. -/
theorem body_obligation (c : Dev nD) : BodyObligation (dats m 0 c) (defs₀ (F := Ideal)) Variants.none () Set.univ := fun t => by
  rw [bigSep_W0, bigSep_W0, defs_row]
  exact triple_restated (sound_body m c t) rfl .rfl fun _ => .rfl

/-- What the launch hands the region is the scratch at some contents, -/
theorem hin (c : Dev nD) : Pipeline.ΦA spec0 c ⊢ (dats m 0 c).Φ 0 := by
  rw [PhiA0_eq, show (dats m 0 c).Φ 0 = Phi m c 0 from rfl]
  unfold Phi
  iintro ⟨⟨⟨%s0, HS0⟩, ⟨%s1, HS1⟩, ⟨%s2, HS2⟩, ⟨%s3, HS3⟩⟩, Hg⟩
  isplitl [HS0 HS1 HS2 HS3]
  · isplitl [HS0]
    · iexists s0
      isplitr
      · ipureintro; exact fun k r j h => absurd h (by omega)
      iexact HS0
    isplitl [HS1]
    · iexists s1
      isplitr
      · ipureintro; exact fun h => absurd h (by omega)
      iexact HS1
    isplitl [HS2]
    · iexists s2
      isplitr
      · ipureintro; exact fun h => absurd h (by omega)
      iexact HS2
    iexists s3
    isplitr
    · ipureintro; exact fun h => absurd h (by omega)
    iexact HS3
  iexact Hg

/-- and so is what it gets back. -/
theorem hout (c : Dev nD) : (dats m 0 c).Φ (Fin.last cfg0.N) ⊢ Pipeline.ΦA spec0 c := by
  rw [PhiA0_eq, show (dats m 0 c).Φ (Fin.last cfg0.N) = Phi m c cfg0.N from rfl]
  unfold Phi
  iintro ⟨⟨⟨%s0, %hs0, HS0⟩, ⟨%s1, %hs1, HS1⟩, ⟨%s2, %hs2, HS2⟩, ⟨%s3, %hs3, HS3⟩⟩, Hg⟩
  isplitl [HS0 HS1 HS2 HS3]
  · isplitl [HS0]; · iexists s0; iexact HS0
    isplitl [HS1]; · iexists s1; iexact HS1
    isplitl [HS2]; · iexists s2; iexact HS2
    iexists s3; iexact HS3
  iexact Hg

set_option backward.isDefEq.respectTransparency.types false in
/-- Every execution ends, with each window's array at what the proof data says of it. -/
theorem run_main : θ_run defs (onTc (τ := τ) (main (F := Ideal))) (s₀ m ρ) (Pipeline.FramePost cfgs (dats m) 0 (V m)) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.KernelIdeal.Value
-- ==== Proof.KernelIdeal.Final.lean ====
/- The four result arrays of the idealized program are the four results of Spec. -/
module

public import proofs.«01_k».proof.Proof.KernelIdeal.Run
public import Idealize.ShloMosaic.Lib.Claim

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Cert.Spec

local notation "𝕄" => MT nD τ sig Unit (Elt Ideal) ℕ (UR sig nD τ) ℕ

variable (m : (ℓ : Loc nD τ sig) → Buf (Elt Ideal) ℓ) (ρ : Dev nD → PrngReg)

variable (c : Dev nD)

/-- The last point. -/
def tLast : Fin cfg0.N := ⟨44, by rw [N_eq]; omega⟩

theorem final5 : (dats m 0 c).arrAt 5 (cfgs 0).N = resHS (argX m c) (argW m c) (argS m c) := by
  refine (dats m 0 c).arrAt_eq_of_after_last 5 tLast (by decide +kernel) _ fun j => ?_
  blk_simp
  rw [after0_5]
  rfl

theorem final7 : (dats m 0 c).arrAt 7 (cfgs 0).N = resXC (argX m c) := by
  refine (dats m 0 c).arrAt_eq_of_after_last 7 tLast (by decide +kernel) _ fun j => ?_
  blk_simp
  rw [after0_7]
  rfl

theorem final8 : (dats m 0 c).arrAt 8 (cfgs 0).N = resXS (argX m c) := by
  refine (dats m 0 c).arrAt_eq_of_after_last 8 tLast (by decide +kernel) _ fun j => ?_
  blk_simp
  rw [after0_8]
  rfl

theorem emb6 (t : Fin cfg0.N) (G : S768x18944.Idx → EReal) (r : Fin 96) (n : Fin 18944) :
    G ((win0_6.blk t).view.emb (ix2 r n)) = G (ix2 ⟨96 * (t.val - 37) + r.val, by have := hcb t; omega⟩ n) := by
  blk_ext [idxH t]

theorem final6 : (dats m 0 c).arrAt 6 (cfgs 0).N = resHC (argX m c) (argW m c) (argS m c) := by
  refine (dats m 0 c).arrAt_eq_of_covers 6 _ (by decide +kernel) fun t hf y => ?_
  blk_simp
  rw [after0_6]
  obtain ⟨r, n, rfl⟩ : ∃ (r : Fin 96) (n : Fin 18944), y = ix2 r n := ⟨y 0, y 1, eq_ix2 y⟩
  exact (emb6 t (resHC (argX m c) (argW m c) (argS m c)) r n).symm

end Cert.KernelIdeal.Value
-- ==== Proof.ReferenceIdeal.Pure.lean ====
/- What the reference's body stores, element by element. -/
module

public import proofs.«01_k».proof.Proof.Gen.ReferenceIdeal.Skeleton
public import proofs.«01_k».proof.Proof.Spec

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Scale Cert.Spec

/-- A choice by one of two tests. -/
theorem select_or {a b : Prop} [Decidable a] [Decidable b] (x y : EReal) :
    Scalar.select (IntOp.ori (BitVec.ofBool (decide a)) (BitVec.ofBool (decide b))) x y = if a ∨ b then x else y := by
  by_cases ha : a <;> by_cases hb : b <;> simp [ha, hb, Scalar.select, IntOp.ori] <;> rfl

/-- The exponents of rows of largest magnitudes `v5`. -/
def expoV (v5 : FVec Ideal S768x1 .f32) : FVec Ideal S768x1 .f32 :=
  have v7 := mulf v5 (broadcast S768x1 (Scalar.ofBits (F := Ideal) .f32 0x3B124925#32))
  have v10 := log (broadcast S768x1 (Scalar.ofBits (F := Ideal) .f32 0x40000000#32))
  have v14 := addf (floor (divf (log v7) v10)) (broadcast S768x1 (Scalar.ofBits (F := Ideal) .f32 0x3F800000#32))
  have v16 := maximumf (broadcast S768x1 (Scalar.ofBits (F := Ideal) .f32 0xC3140000#32)) v14
  have v18 := minimumf (broadcast S768x1 (Scalar.ofBits (F := Ideal) .f32 0x43000000#32)) v16
  select (ori (cmpf .oeq v7 (broadcast S768x1 (Scalar.ofBits (F := Ideal) .f32 0x00000000#32)))
    (cmpf .oeq v7 (broadcast S768x1 (Scalar.ofBits (F := Ideal) .f32 0x7F800000#32))))
    (broadcast S768x1 (Scalar.ofBits (F := Ideal) .f32 0x00000000#32)) v18

theorem expoV_at (v : FVec Ideal S768x1 .f32) (r : Fin 768) (q : Fin 1) :
    expoV v (ix2 r q) = expo (v (ix2 r q) * c448) := by
  pointwise [expoV]
  rw [select_or, ofBits_top]
  rfl

/-- The codes of rows `v` of exponents `e`. -/
def codesX (v : FVec Ideal S768x3584 .f32) (e : FVec Ideal S768x1 .f32) : FVec Ideal S768x3584 .f32 :=
  minimumf (broadcast S768x3584 (Scalar.ofBits (F := Ideal) .f32 0x43E00000#32))
    (maximumf (broadcast S768x3584 (Scalar.ofBits (F := Ideal) .f32 0xC3E00000#32))
      (mulf v (broadcastTo S768x3584 (exp2 (subf (broadcast S768x1 (Scalar.ofBits (F := Ideal) .f32 0x00000000#32)) e))
        broadcasts_S768x1_S768x3584)))
def codesH (v : FVec Ideal S768x18944 .f32) (e : FVec Ideal S768x1 .f32) : FVec Ideal S768x18944 .f32 :=
  minimumf (broadcast S768x18944 (Scalar.ofBits (F := Ideal) .f32 0x43E00000#32))
    (maximumf (broadcast S768x18944 (Scalar.ofBits (F := Ideal) .f32 0xC3E00000#32))
      (mulf v (broadcastTo S768x18944 (exp2 (subf (broadcast S768x1 (Scalar.ofBits (F := Ideal) .f32 0x00000000#32)) e))
        broadcasts_S768x1_S768x18944)))

theorem codesX_at (v : FVec Ideal S768x3584 .f32) (e : FVec Ideal S768x1 .f32) (r : Fin 768) (k : Fin 3584) :
    codesX v e (ix2 r k) = clip (v (ix2 r k) * Ideal.exp2 (0 - e (ix2 r 0))) := by
  pointwise [codesX]
  rfl
theorem codesH_at (v : FVec Ideal S768x18944 .f32) (e : FVec Ideal S768x1 .f32) (r : Fin 768) (k : Fin 18944) :
    codesH v e (ix2 r k) = clip (v (ix2 r k) * Ideal.exp2 (0 - e (ix2 r 0))) := by
  pointwise [codesH]
  rfl

/-- The largest magnitudes of rows. -/
def maxX (v : FVec Ideal S768x3584 .f32) : FVec Ideal S768x1 .f32 := shapeCast S768x1
  (multiReduction (F := Ideal) .maximumf [1] S768 (absf v) 0xFF800000#32 reduces_S768x3584_S768 (.inl rfl) rfl) shapeCasts_S768_S768x1
def maxH (v : FVec Ideal S768x18944 .f32) : FVec Ideal S768x1 .f32 := shapeCast S768x1
  (multiReduction (F := Ideal) .maximumf [1] S768 (absf v) 0xFF800000#32 reduces_S768x18944_S768 (.inl rfl) rfl) shapeCasts_S768_S768x1

theorem maxX_at (v : FVec Ideal S768x3584 .f32) (r : Fin 768) (q : Fin 1) :
    maxX v (ix2 r q) = rowMax fun k : Fin 3584 => v (ix2 r k) := by
  pointwise [maxX]
  exact fold_max _
theorem maxH_at (v : FVec Ideal S768x18944 .f32) (r : Fin 768) (q : Fin 1) :
    maxH v (ix2 r q) = rowMax fun k : Fin 18944 => v (ix2 r k) := by
  pointwise [maxH]
  exact fold_max _

theorem exp2V_at (v : FVec Ideal S768x1 .f32) (r : Fin 768) (q : Fin 1) : exp2 v (ix2 r q) = Ideal.exp2 (v (ix2 r q)) := rfl

/-! ## The activations -/

theorem pay1_at (x : FVec Ideal S768x3584 .bf16) (r : Fin 768) (k : Fin 3584) : k0_pay1 (F := Ideal) x (ix2 r k) = x (ix2 r k) := by
  pointwise [k0_pay1]

theorem pay2_at (x : FVec Ideal S768x3584 .bf16) (r : Fin 768) (q : Fin 1) :
    k0_pay2 (F := Ideal) x (ix2 r q) = expo (rowMax (fun k : Fin 3584 => x (ix2 r k)) * c448) := by
  rw [show k0_pay2 (F := Ideal) x = expoV (maxX (k0_pay1 (F := Ideal) x)) from rfl, expoV_at, maxX_at]
  simp only [pay1_at]

theorem xs_at (x : FVec Ideal S768x3584 .bf16) (r : Fin 768) (q : Fin 1) :
    k0_pay4 (F := Ideal) x (ix2 r q) = rowScale fun k : Fin 3584 => x (ix2 r k) := by
  rw [show k0_pay4 (F := Ideal) x = exp2 (k0_pay2 (F := Ideal) x) from rfl, exp2V_at, pay2_at]
  rfl

theorem xc_at (x : FVec Ideal S768x3584 .bf16) (r : Fin 768) (k : Fin 3584) :
    k0_pay3 (F := Ideal) x (ix2 r k) = rowCode (fun k : Fin 3584 => x (ix2 r k)) k := by
  rw [show k0_pay3 (F := Ideal) x = codesX (k0_pay1 (F := Ideal) x) (k0_pay2 (F := Ideal) x) from rfl, codesX_at, pay2_at,
    pay1_at]
  rfl

/-! ## The products -/

theorem acc_at (x : FVec Ideal S768x3584 .bf16) (w : FVec Ideal S3584x37888 .fp8e4m3) (r : Fin 768) (n : Fin 37888) :
    k0_pay5 (F := Ideal) x w (ix2 r n) = (∑ k : Fin 3584, k0_pay3 (F := Ideal) x (ix2 r k) * w (ix2 k n)) * k0_pay4 (F := Ideal) x (ix2 r 0) := by
  pointwise [k0_pay5]

theorem gated_at (a : FVec Ideal S768x37888 .f32) (s : FVec Ideal S1x37888 .f32) (r : Fin 768) (n : Fin 18944) :
    k0_pay6 (F := Ideal) a s (ix2 r n) = swiglu (a (ix2 r ⟨n.val, by omega⟩) * s (ix2 0 ⟨n.val, by omega⟩))
      (a (ix2 r ⟨18944 + n.val, by omega⟩) * s (ix2 0 ⟨18944 + n.val, by omega⟩)) := by
  pointwise [k0_pay6]
  rfl

variable (x : FVec Ideal S768x3584 .bf16) (w : FVec Ideal S3584x37888 .fp8e4m3) (s : FVec Ideal S1x37888 .f32)

theorem h_at (r : Fin 768) (n : Fin 18944) :
    k0_pay6 (F := Ideal) (k0_pay5 (F := Ideal) x w) s (ix2 r n)
      = h (fun r k => x (ix2 r k)) (fun k n => w (ix2 k n)) (fun n => s (ix2 0 n)) r n := by
  rw [gated_at, acc_at, acc_at, xs_at]
  simp only [xc_at]
  rfl

theorem hq_eq (a : FVec Ideal S768x37888 .f32) : k0_pay7 (F := Ideal) a s = expoV (maxH (k0_pay6 (F := Ideal) a s)) := by
  unfold k0_pay7 expoV maxH
  rfl

theorem hs_at (r : Fin 768) (q : Fin 1) : k0_pay9 (F := Ideal) (k0_pay5 (F := Ideal) x w) s (ix2 r q)
    = rowScale (h (fun r k => x (ix2 r k)) (fun k n => w (ix2 k n)) (fun n => s (ix2 0 n)) r) := by
  unfold k0_pay9
  rw [exp2V_at, hq_eq, expoV_at, maxH_at]
  simp only [h_at, rowScale, scale, cond_false]

theorem hc_at (r : Fin 768) (n : Fin 18944) : k0_pay8 (F := Ideal) (k0_pay5 (F := Ideal) x w) s (ix2 r n)
    = rowCode (h (fun r k => x (ix2 r k)) (fun k n => w (ix2 k n)) (fun n => s (ix2 0 n)) r) n := by
  have e : k0_pay8 (F := Ideal) (k0_pay5 (F := Ideal) x w) s
      = codesH (k0_pay6 (F := Ideal) (k0_pay5 (F := Ideal) x w) s) (k0_pay7 (F := Ideal) (k0_pay5 (F := Ideal) x w) s) := by
    unfold k0_pay8 codesH
    rfl
  rw [e, codesH_at, hq_eq, expoV_at, maxH_at]
  simp only [h_at, rowCode, scale, cond_true]

end Cert.ReferenceIdeal.Value
-- ==== Proof.ReferenceIdeal.Final.lean ====
/- The reference's four result arrays are the four results of Spec. -/
module

public import proofs.«01_k».proof.Proof.Gen.ReferenceIdeal.Frame
public import proofs.«01_k».proof.Proof.ReferenceIdeal.Pure
public import Idealize.ShloMosaic.Lib.Pipeline.ValueKit
public import Idealize.ShloMosaic.Lib.Claim

@[expose] public section

set_option maxRecDepth 16384

noncomputable section

namespace Cert.ReferenceIdeal.Value

open Idealize.ShloMosaic Idealize.ShloMosaic.TcCoe Idealize.SL.Sem
open Idealize.ShloMosaic.Pipeline (Dat)
open Cert.ReferenceIdeal Cert.ReferenceIdeal.Gen Cert.Scale Cert.Spec

variable (m : (ℓ : Loc nD τ sig) → Buf (Elt Ideal) ℓ) (c : Dev nD)

abbrev argX : FVec Ideal ⟨3, ![2, 384, 3584]⟩ .bf16 := m ((c : Thread nD τ).loc main_arg0)
abbrev argW : FVec Ideal ⟨2, ![3584, 37888]⟩ .fp8e4m3 := m ((c : Thread nD τ).loc main_arg1)
abbrev argS : FVec Ideal ⟨1, ![37888]⟩ .f32 := m ((c : Thread nD τ).loc main_arg2)

theorem idx : ∀ t : Fin cfg0.N, win0_0.index t = ![0, 0] ∧ win0_1.index t = ![0, 0] ∧ win0_2.index t = ![0, 0] :=
  (by decide +kernel : ∀ t : Fin grid0.N, _)

theorem blk0 (t : Fin cfg0.N) (r : Fin 768) (k : Fin 3584) :
    (show FVec Ideal S768x3584 .bf16 from iblk m c 0 t) (ix2 r k) = rowsOf (argX m c) r k := by
  show iblk m c 0 t (ix2 r k) = _
  blk_simp [iblk]
  entry_read
  pointwise
  unfold rowsOf
  blk_ext [idx t]

theorem blk1 (t : Fin cfg0.N) (k : Fin 3584) (n : Fin 37888) :
    (show FVec Ideal S3584x37888 .fp8e4m3 from iblk m c 1 t) (ix2 k n) = weightsOf (argW m c) k n := by
  show iblk m c 1 t (ix2 k n) = _
  unfold weightsOf
  blk_ext [iblk, V, idx t]

theorem blk2 (t : Fin cfg0.N) (q : Fin 1) (n : Fin 37888) :
    (show FVec Ideal S1x37888 .f32 from iblk m c 2 t) (ix2 q n) = scalesOf (argS m c) n := by
  show iblk m c 2 t (ix2 q n) = _
  blk_simp [iblk]
  entry_read
  pointwise
  unfold scalesOf
  blk_ext [idx t]

/-- The rows of the activations' block. -/
theorem rows0 (t : Fin cfg0.N) :
    (fun (r : Fin 768) (k : Fin 3584) => (show FVec Ideal S768x3584 .bf16 from iblk m c 0 t) (ix2 r k)) = rowsOf (argX m c) :=
  funext fun r => funext fun k => blk0 m c t r k

/-- The gated products of the three blocks. -/
theorem hBlk (t : Fin cfg0.N) (r : Fin 768) :
    h (fun r k => (show FVec Ideal S768x3584 .bf16 from iblk m c 0 t) (ix2 r k))
      (fun k n => (show FVec Ideal S3584x37888 .fp8e4m3 from iblk m c 1 t) (ix2 k n))
      (fun n => (show FVec Ideal S1x37888 .f32 from iblk m c 2 t) (ix2 0 n)) r = hOf (argX m c) (argW m c) (argS m c) r := by
  rw [rows0, show (fun (k : Fin 3584) (n : Fin 37888) => (show FVec Ideal S3584x37888 .fp8e4m3 from iblk m c 1 t) (ix2 k n))
    = weightsOf (argW m c) from funext fun k => funext fun n => blk1 m c t k n,
    show (fun (n : Fin 37888) => (show FVec Ideal S1x37888 .f32 from iblk m c 2 t) (ix2 0 n))
    = scalesOf (argS m c) from funext fun n => blk2 m c t 0 n]
  rfl

theorem final6 : (dats m 0 c).arrAt 6 (cfgs 0).N = resXS (argX m c) := by
  refine (dats m 0 c).arrAt_eq_of_after_last 6 t0_0 (by decide +kernel) _ fun j => ?_
  blk_simp
  rw [after0_6]; frame_out
  obtain ⟨r, q, rfl⟩ : ∃ (r : Fin 768) (q : Fin 1), j = ix2 r q := ⟨j 0, j 1, eq_ix2 j⟩
  refine (xs_at _ r q).trans ?_
  exact congrArg rowScale (congrFun (rows0 m c t0_0) r)

theorem final5 : (dats m 0 c).arrAt 5 (cfgs 0).N = resXC (argX m c) := by
  refine (dats m 0 c).arrAt_eq_of_after_last 5 t0_0 (by decide +kernel) _ fun j => ?_
  blk_simp
  rw [after0_5]; frame_out
  obtain ⟨r, q, rfl⟩ : ∃ (r : Fin 768) (q : Fin 3584), j = ix2 r q := ⟨j 0, j 1, eq_ix2 j⟩
  refine (xc_at _ r q).trans ?_
  exact congrArg (rowCode · q) (congrFun (rows0 m c t0_0) r)

theorem pay10_eq (x0 : Vec Ideal S768x3584 .bf16) (x1 : Vec Ideal S3584x37888 .fp8e4m3) (x2 : Vec Ideal S1x37888 .f32) :
    k0_pay10 (F := Ideal) x0 x1 x2 = k0_pay5 (F := Ideal) x0 x1 := by
  unfold k0_pay10
  frame_out

theorem final3 : (dats m 0 c).arrAt 3 (cfgs 0).N = resHS (argX m c) (argW m c) (argS m c) := by
  refine (dats m 0 c).arrAt_eq_of_after_last 3 t0_0 (by decide +kernel) _ fun j => ?_
  blk_simp
  rw [after0_3]; frame_out
  rw [pay10_eq]
  obtain ⟨r, q, rfl⟩ : ∃ (r : Fin 768) (q : Fin 1), j = ix2 r q := ⟨j 0, j 1, eq_ix2 j⟩
  refine (hs_at _ _ _ r q).trans ?_
  exact congrArg rowScale (hBlk m c t0_0 r)

theorem final4 : (dats m 0 c).arrAt 4 (cfgs 0).N = resHC (argX m c) (argW m c) (argS m c) := by
  refine (dats m 0 c).arrAt_eq_of_after_last 4 t0_0 (by decide +kernel) _ fun j => ?_
  blk_simp
  rw [after0_4]; frame_out
  rw [pay10_eq]
  obtain ⟨r, q, rfl⟩ : ∃ (r : Fin 768) (q : Fin 18944), j = ix2 r q := ⟨j 0, j 1, eq_ix2 j⟩
  refine (hc_at _ _ _ r q).trans ?_
  exact congrArg (rowCode · q) (hBlk m c t0_0 r)

end Cert.ReferenceIdeal.Value
-- ==== Proof.lean ====
module

public import proofs.«01_k».proof.Defs
public import proofs.«01_k».proof.Proof.Kernel.Frame
public import proofs.«01_k».proof.Proof.KernelIdeal.Frame
public import proofs.«01_k».proof.Proof.KernelIdeal.Final
public import proofs.«01_k».proof.Proof.ReferenceIdeal.Final
public import Idealize.ShloMosaic.Adequacy
public import Idealize.ShloMosaic.Init

@[expose] public section

noncomputable section

namespace Cert.Proof

open Idealize.ShloMosaic Idealize.SL.Sem Cert.Spec

/-- From memories that agree on the arguments the two programs end with the four results of Spec. -/
theorem algebraic : Cert.algebraic_KernelIdeal_ReferenceIdeal (hKernelIdeal := Cert.KernelIdeal.Gen.facts)
    (hReferenceIdeal := Cert.ReferenceIdeal.Gen.facts) := by
  intro m g m' g' hpre hagree
  have hX : ∀ c, Cert.ReferenceIdeal.Value.argX m' c = Cert.KernelIdeal.Value.argX m c := fun c => (hagree c).1
  have hW : ∀ c, Cert.ReferenceIdeal.Value.argW m' c = Cert.KernelIdeal.Value.argW m c := fun c => (hagree c).2.1
  have hS : ∀ c, Cert.ReferenceIdeal.Value.argS m' c = Cert.KernelIdeal.Value.argS m c := fun c => (hagree c).2.2
  refine ⟨fun c => resHS (Cert.KernelIdeal.Value.argX m c) (Cert.KernelIdeal.Value.argW m c) (Cert.KernelIdeal.Value.argS m c),
    fun c => resHC (Cert.KernelIdeal.Value.argX m c) (Cert.KernelIdeal.Value.argW m c) (Cert.KernelIdeal.Value.argS m c),
    fun c => resXC (Cert.KernelIdeal.Value.argX m c), fun c => resXS (Cert.KernelIdeal.Value.argX m c), ?_, ?_⟩
  · run_from Cert.KernelIdeal.Value.run_main m g
    · exact Cert.KernelIdeal.Value.final5 m c
    · exact Cert.KernelIdeal.Value.final6 m c
    · exact Cert.KernelIdeal.Value.final7 m c
    · exact Cert.KernelIdeal.Value.final8 m c
  · run_from Cert.ReferenceIdeal.Gen.run_main m' g'
    · exact (Cert.ReferenceIdeal.Value.final3 m' c).trans (by rw [hX, hW, hS])
    · exact (Cert.ReferenceIdeal.Value.final4 m' c).trans (by rw [hX, hW, hS])
    · exact (Cert.ReferenceIdeal.Value.final5 m' c).trans (by rw [hX])
    · exact (Cert.ReferenceIdeal.Value.final6 m' c).trans (by rw [hX])

theorem claim : Cert.Claim := ⟨Cert.Kernel.Gen.facts, Cert.KernelIdeal.Gen.facts, Cert.ReferenceIdeal.Gen.facts,
  fun m g _ => Cert.Kernel.Body.frame m g, fun m g _ => Cert.KernelIdeal.Body.frame m g,
  fun m g _ => Cert.ReferenceIdeal.Gen.frame m g, trivial, algebraic⟩

end Cert.Proof

end
